-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  IdealRules.named_const.Statement Cert.Kernel4Ideal.κ "scale" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v44_0)) (v1 : (c : Dev Cert.Kernel4Ideal.nD) → Buf (Elt Ideal) ((c.tc : Thread Cert.Kernel4Ideal.nD Cert.Kernel4Ideal.τ).loc Cert.Kernel4Ideal.main_v44_1)) (v2 : (c : Dev Cert.Kernel4Ideal.nD) → Buf (Elt Ideal) ((c.tc : Thread Cert.Kernel4Ideal.nD Cert.Kernel4Ideal.τ).loc Cert.Kernel4Ideal.main_v44_2)) (v3 : (c : Dev Cert.Kernel4Ideal.nD) → Buf (Elt Ideal) ((c.tc : Thread Cert.Kernel4Ideal.nD Cert.Kernel4Ideal.τ).loc Cert.Kernel4Ideal.main_v44_3)) (v4 : (c : Dev Cert.Kernel4Ideal.nD) → Buf (Elt Ideal) ((c.tc : Thread Cert.Kernel4Ideal.nD Cert.Kernel4Ideal.τ).loc Cert.Kernel4Ideal.main_v44_4)) (v5 : (c : Dev Cert.Kernel4Ideal.nD) → Buf (Elt Ideal) ((c.tc : Thread Cert.Kernel4Ideal.nD Cert.Kernel4Ideal.τ).loc Cert.Kernel4Ideal.main_v44_5)) (v6 : (c : Dev Cert.Kernel4Ideal.nD) → Buf (Elt Ideal) ((c.tc : Thread Cert.Kernel4Ideal.nD Cert.Kernel4Ideal.τ).loc Cert.Kernel4Ideal.main_v44_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44_0) = v0 c
          ∧ r.2.mem ((c.tc : Thread Cert.Kernel4Ideal.nD Cert.Kernel4Ideal.τ).loc Cert.Kernel4Ideal.main_v44_1) = v1 c
          ∧ r.2.mem ((c.tc : Thread Cert.Kernel4Ideal.nD Cert.Kernel4Ideal.τ).loc Cert.Kernel4Ideal.main_v44_2) = v2 c
          ∧ r.2.mem ((c.tc : Thread Cert.Kernel4Ideal.nD Cert.Kernel4Ideal.τ).loc Cert.Kernel4Ideal.main_v44_3) = v3 c
          ∧ r.2.mem ((c.tc : Thread Cert.Kernel4Ideal.nD Cert.Kernel4Ideal.τ).loc Cert.Kernel4Ideal.main_v44_4) = v4 c
          ∧ r.2.mem ((c.tc : Thread Cert.Kernel4Ideal.nD Cert.Kernel4Ideal.τ).loc Cert.Kernel4Ideal.main_v44_5) = v5 c
          ∧ r.2.mem ((c.tc : Thread Cert.Kernel4Ideal.nD Cert.Kernel4Ideal.τ).loc Cert.Kernel4Ideal.main_v44_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v66) = v2 c
          ∧ r.2.mem ((c.tc : Thread Cert.Reference4Ideal.nD Cert.Reference4Ideal.τ).loc Cert.Reference4Ideal.main_v67) = v3 c
          ∧ r.2.mem ((c.tc : Thread Cert.Reference4Ideal.nD Cert.Reference4Ideal.τ).loc Cert.Reference4Ideal.main_v68) = v4 c
          ∧ r.2.mem ((c.tc : Thread Cert.Reference4Ideal.nD Cert.Reference4Ideal.τ).loc Cert.Reference4Ideal.main_v63) = v5 c
          ∧ r.2.mem ((c.tc : Thread Cert.Reference4Ideal.nD Cert.Reference4Ideal.τ).loc Cert.Reference4Ideal.main_v69) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x128x4x64x128 : Shape := ⟨5, ![2, 128, 4, 64, 128]⟩
abbrev S_ : Shape := ⟨0, ![]⟩

class Facts : Prop where
  bcast_S_S2x128x4x64x128 : S_.BroadcastsInDim S2x128x4x64x128 (![] : Fin 0 → Fin S2x128x4x64x128.rank)
  reducesTo_S2x128x4x64x128_S_d0_1_2_3_4 : S2x128x4x64x128.ReducesTo [0, 1, 2, 3, 4] S_
  h_S_ : 0 < S_.numel

variable [Facts]

def fn {F : FTy → Type} [FloatOps F] (main_arg0 : FVec F S2x128x4x64x128 .f32) (main_arg1 : FVec F S2x128x4x64x128 .f32) : IVec S_ 1 :=
  let main_v0 : FVec F S2x128x4x64x128 .f32 := Host.absf main_arg0
  let main_cst : FVec F S_ .f32 := constant S_ .f32 0x7F800000#32
  let main_v1 : FVec F S2x128x4x64x128 .f32 := broadcastInDim S2x128x4x64x128 ![] bcast_S_S2x128x4x64x128 main_cst
  let main_v2 : IVec S2x128x4x64x128 1 := cmpf .olt main_v0 main_v1
  let main_c : IVec S_ 1 := constantI S_ 1 1#1
  let main_v3 : IVec S_ 1 := (fun x v => Host.reduce IntOp.andi x v reducesTo_S2x128x4x64x128_S_d0_1_2_3_4 h_S_) main_v2 main_c
  let main_v4 : FVec F S2x128x4x64x128 .f32 := Host.absf main_arg1
  let main_cst_0 : FVec F S_ .f32 := constant S_ .f32 0x7F800000#32
  let main_v5 : FVec F S2x128x4x64x128 .f32 := broadcastInDim S2x128x4x64x128 ![] bcast_S_S2x128x4x64x128 main_cst_0
  let main_v6 : IVec S2x128x4x64x128 1 := cmpf .olt main_v4 main_v5
  let main_c_1 : IVec S_ 1 := constantI S_ 1 1#1
  let main_v7 : IVec S_ 1 := (fun x v => Host.reduce IntOp.andi x v reducesTo_S2x128x4x64x128_S_d0_1_2_3_4 h_S_) main_v6 main_c_1
  let main_v8 : IVec S_ 1 := andi main_v3 main_v7
  main_v8
-- ==== Kernel.lean ====
abbrev S2x128x4x64x128 : Shape := ⟨5, ![2, 128, 4, 64, 128]⟩
abbrev S2x8x4x64x128 : Shape := ⟨5, ![2, 8, 4, 64, 128]⟩
abbrev S2x4x128x128 : Shape := ⟨4, ![2, 4, 128, 128]⟩
abbrev S1x1x128x128 : Shape := ⟨4, ![1, 1, 128, 128]⟩
abbrev S128x128 : Shape := ⟨2, ![128, 128]⟩
abbrev S64x128 : Shape := ⟨2, ![64, 128]⟩
abbrev S1x1x1x64x128 : Shape := ⟨5, ![1, 1, 1, 64, 128]⟩

abbrev nBuf : Space → Nat
  | .hbm => 3
  | .vmem => 7
  | .smem => 0
  | _ => 0

abbrev bufTy : (tb : Table) → Fin (tcTables nBuf tb) → BufTy
  | .hbm, ⟨0, _⟩ => ⟨S2x128x4x64x128, .f32⟩
  | .hbm, ⟨1, _⟩ => ⟨S2x128x4x64x128, .f32⟩
  | .hbm, ⟨2, _⟩ => ⟨S2x128x4x64x128, .bf16⟩
  | .local _ .vmem, ⟨0, _⟩ => ⟨S2x8x4x64x128, .f32⟩
  | .local _ .vmem, ⟨1, _⟩ => ⟨S2x8x4x64x128, .f32⟩
  | .local _ .vmem, ⟨2, _⟩ => ⟨S2x8x4x64x128, .f32⟩
  | .local _ .vmem, ⟨3, _⟩ => ⟨S2x8x4x64x128, .f32⟩
  | .local _ .vmem, ⟨4, _⟩ => ⟨S2x8x4x64x128, .bf16⟩
  | .local _ .vmem, ⟨5, _⟩ => ⟨S2x8x4x64x128, .bf16⟩
  | .local _ .vmem, ⟨6, _⟩ => ⟨S2x4x128x128, .f32⟩
  | _, _ => ⟨S2x128x4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2x8x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x4x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x128x4x64x128 : Shape := ⟨5, ![2, 128, 4, 64, 128]⟩
abbrev S_ : Shape := ⟨0, ![]⟩
abbrev S2x8x64x64 : Shape := ⟨4, ![2, 8, 64, 64]⟩
abbrev S2x128x4x64x2x64 : Shape := ⟨6, ![2, 128, 4, 64, 2, 64]⟩
abbrev S128x2x4x2x64x64 : Shape := ⟨6, ![128, 2, 4, 2, 64, 64]⟩
abbrev S128x2x8x64x64 : Shape := ⟨5, ![128, 2, 8, 64, 64]⟩
abbrev S1x2x8x64x64 : Shape := ⟨5, ![1, 2, 8, 64, 64]⟩

abbrev nBuf : Space → Nat
  | .hbm => 46
  | .vmem => 0
  | .smem => 0
  | _ => 0

abbrev bufTy : (tb : Table) → Fin (tcTables nBuf tb) → BufTy
  | .hbm, ⟨0, _⟩ => ⟨S2x128x4x64x128, .f32⟩
  | .hbm, ⟨1, _⟩ => ⟨S2x128x4x64x128, .f32⟩
  | .hbm, ⟨2, _⟩ => ⟨S_, .f32⟩
  | .hbm, ⟨3, _⟩ => ⟨S2x8x64x64, .f32⟩
  | .hbm, ⟨4, _⟩ => ⟨S2x128x4x64x2x64, .f32⟩
  | .hbm, ⟨5, _⟩ => ⟨S128x2x4x2x64x64, .f32⟩
  | .hbm, ⟨6, _⟩ => ⟨S128x2x8x64x64, .f32⟩
  | .hbm, ⟨7, _⟩ => ⟨S2x128x4x64x2x64, .f32⟩
  | .hbm, ⟨8, _⟩ => ⟨S128x2x4x2x64x64, .f32⟩
  | .hbm, ⟨9, _⟩ => ⟨S128x2x8x64x64, .f32⟩
  | .hbm, ⟨10, _⟩ => ⟨S_, .f32⟩
  | .hbm, ⟨11, _⟩ => ⟨S128x2x8x64x64, .f32⟩
  | .hbm, ⟨12, _⟩ => ⟨S_, .i32⟩
  | .hbm, ⟨13, _⟩ => ⟨S128x2x8x64x64, .f32⟩
  | .hbm, ⟨14, _⟩ => ⟨S128x2x8x64x64, .f32⟩
  | .hbm, ⟨15, _⟩ => ⟨S_, .i32⟩
  | .hbm, ⟨16, _⟩ => ⟨S2x8x64x64, .f32⟩
  | .hbm, ⟨17, _⟩ => ⟨S128x2x8x64x64, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x2x8x64x64, .f32⟩
  | .hbm, ⟨25, _⟩ => ⟨S2x8x64x64, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x2x8x64x64, .f32⟩
  | .hbm, ⟨31, _⟩ => ⟨S2x8x64x64, .f32⟩
  | .hbm, ⟨32, _⟩ => ⟨S2x8x64x64, .f32⟩
  | .hbm, ⟨33, _⟩ => ⟨S2x8x64x64, .f32⟩
  | .hbm, ⟨34, _⟩ => ⟨S1x2x8x64x64, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S128x2x8x64x64, .f32⟩
  | .hbm, ⟨40, _⟩ => ⟨S_, .i32⟩
  | .hbm, ⟨41, _⟩ => ⟨S_, .i32⟩
  | .hbm, ⟨42, _⟩ => ⟨S128x2x4x2x64x64, .f32⟩
  | .hbm, ⟨43, _⟩ => ⟨S2x128x4x64x2x64, .f32⟩
  | .hbm, ⟨44, _⟩ => ⟨S2x128x4x64x128, .f32⟩
  | .hbm, ⟨45, _⟩ => ⟨S2x128x4x64x128, .bf16⟩
  | _, _ => ⟨S2x128x4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_c : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_while0c_c_5 : Ref sig .tc := ⟨.hbm, 18, rfl⟩
abbrev main_while0c_v13 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_c_1 : Ref sig .tc := ⟨.hbm, 22, rfl⟩
abbrev main_while0b_call0_c_2 : Ref sig .tc := ⟨.hbm, 23, rfl⟩
abbrev main_while0b_call0_v0 : Ref sig .tc := ⟨.hbm, 24, rfl⟩
abbrev main_while0b_v13 : Ref sig .tc := ⟨.hbm, 25, rfl⟩
abbrev main_while0b_call1_c : Ref sig .tc := ⟨.hbm, 26, rfl⟩
abbrev main_while0b_call1_c_0 : Ref sig .tc := ⟨.hbm, 27, rfl⟩
abbrev main_while0b_call1_c_1 : Ref sig .tc := ⟨.hbm, 28, rfl⟩
abbrev main_while0b_call1_c_2 : Ref sig .tc := ⟨.hbm, 29, rfl⟩
abbrev main_while0b_call1_v0 : Ref sig .tc := ⟨.hbm, 30, rfl⟩
abbrev main_while0b_v14 : Ref sig .tc := ⟨.hbm, 31, rfl⟩
abbrev main_while0b_v15 : Ref sig .tc := ⟨.hbm, 32, rfl⟩
abbrev main_while0b_v16 : Ref sig .tc := ⟨.hbm, 33, rfl⟩
abbrev main_while0b_call2_v0 : Ref sig .tc := ⟨.hbm, 34, rfl⟩
abbrev main_while0b_call2_c : Ref sig .tc := ⟨.hbm, 35, rfl⟩
abbrev main_while0b_call2_c_0 : Ref sig .tc := ⟨.hbm, 36, rfl⟩
abbrev main_while0b_call2_c_1 : Ref sig .tc := ⟨.hbm, 37, rfl⟩
abbrev main_while0b_call2_c_2 : Ref sig .tc := ⟨.hbm, 38, rfl⟩
abbrev main_while0b_v17 : Ref sig .tc := ⟨.hbm, 39, rfl⟩
abbrev main_while0b_c_5 : Ref sig .tc := ⟨.hbm, 40, rfl⟩
abbrev main_while0b_v18 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S_, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S2x128x4x64x128 : Shape := ⟨5, ![2, 128, 4, 64, 128]⟩
abbrev S512 : Shape := ⟨1, ![512]⟩
abbrev S1024x1024 : Shape := ⟨2, ![1024, 1024]⟩
abbrev S1024 : Shape := ⟨1, ![1024]⟩
abbrev S2x256x1024 : Shape := ⟨3, ![2, 256, 1024]⟩
abbrev S128x128 : Shape := ⟨2, ![128, 128]⟩
abbrev S512x1024 : Shape := ⟨2, ![512, 1024]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x8x4x64x128 : Shape := ⟨5, ![1, 8, 4, 64, 128]⟩
abbrev S1x256x1024 : Shape := ⟨3, ![1, 256, 1024]⟩
abbrev S1x64x128 : Shape := ⟨3, ![1, 64, 128]⟩
abbrev S64x128 : Shape := ⟨2, ![64, 128]⟩
abbrev S1x1x1x64x128 : Shape := ⟨5, ![1, 1, 1, 64, 128]⟩
abbrev S64 : Shape := ⟨1, ![64]⟩
abbrev S64x1 : Shape := ⟨2, ![64, 1]⟩
abbrev S1x128 : Shape := ⟨2, ![1, 128]⟩
abbrev S64x512 : Shape := ⟨2, ![64, 512]⟩
abbrev S512x512 : Shape := ⟨2, ![512, 512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 26
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x128x4x64x128, .bf16⟩
  | .hbm, ⟨3, _⟩ => ⟨S2x8192x512, .bf16⟩
  | .hbm, ⟨4, _⟩ => ⟨S2x8192x512, .f32⟩
  | .hbm, ⟨5, _⟩ => ⟨S2x8192x512, .f32⟩
  | .hbm, ⟨6, _⟩ => ⟨S2x8192x512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S2x256x1024, .bf16⟩
  | .hbm, ⟨13, _⟩ => ⟨S2x256x1024, .bf16⟩
  | .hbm, ⟨14, _⟩ => ⟨S1024x1024, .f32⟩
  | .hbm, ⟨15, _⟩ => ⟨S128x128, .bf16⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S1x512, .f32⟩
  | .hbm, ⟨21, _⟩ => ⟨S1x512, .f32⟩
  | .hbm, ⟨22, _⟩ => ⟨S1x1024, .f32⟩
  | .hbm, ⟨23, _⟩ => ⟨S1024x1024, .bf16⟩
  | .hbm, ⟨24, _⟩ => ⟨S1024x1024, .bf16⟩
  | .hbm, ⟨25, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x8x4x64x128, .bf16⟩
  | .local _ .vmem, ⟨5, _⟩ => ⟨S1x8x4x64x128, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512, .f32⟩
  | .local _ .vmem, ⟨15, _⟩ => ⟨S1x512, .f32⟩
  | .local _ .vmem, ⟨16, _⟩ => ⟨S128x128, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1024x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1024x1024, .bf16⟩
  | .local _ .vmem, ⟨26, _⟩ => ⟨S1x512x1024, .f32⟩
  | .local _ .vmem, ⟨27, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S2x8192x1024 : Shape := ⟨3, ![2, 8192, 1024]⟩
abbrev S2x8192x512 : Shape := ⟨3, ![2, 8192, 512]⟩
abbrev S2x128x4x64x128 : Shape := ⟨5, ![2, 128, 4, 64, 128]⟩
abbrev S512 : Shape := ⟨1, ![512]⟩
abbrev S1024x1024 : Shape := ⟨2, ![1024, 1024]⟩
abbrev S1024 : Shape := ⟨1, ![1024]⟩
abbrev S2x256x1024 : Shape := ⟨3, ![2, 256, 1024]⟩
abbrev S2x128x4x64x2x64 : Shape := ⟨6, ![2, 128, 4, 64, 2, 64]⟩
abbrev S2x128x4x2x64x64 : Shape := ⟨6, ![2, 128, 4, 2, 64, 64]⟩
abbrev S2x128x8x64x64 : Shape := ⟨5, ![2, 128, 8, 64, 64]⟩
abbrev S2x128x64x8x64 : Shape := ⟨5, ![2, 128, 64, 8, 64]⟩
abbrev S2x8192x8x64 : Shape := ⟨4, ![2, 8192, 8, 64]⟩
abbrev S_ : Shape := ⟨0, ![]⟩
abbrev S2x8192x8 : Shape := ⟨3, ![2, 8192, 8]⟩
abbrev S2x8192x8x1 : Shape := ⟨4, ![2, 8192, 8, 1]⟩
abbrev S1x1x512 : Shape := ⟨3, ![1, 1, 512]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 106
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x128x4x64x128, .bf16⟩
  | .hbm, ⟨3, _⟩ => ⟨S2x8192x512, .bf16⟩
  | .hbm, ⟨4, _⟩ => ⟨S2x8192x512, .f32⟩
  | .hbm, ⟨5, _⟩ => ⟨S2x8192x512, .f32⟩
  | .hbm, ⟨6, _⟩ => ⟨S2x8192x512, .f32⟩
  | .hbm, ⟨7, _⟩ => ⟨S512, .f32⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S2x256x1024, .bf16⟩
  | .hbm, ⟨13, _⟩ => ⟨S2x256x1024, .bf16⟩
  | .hbm, ⟨14, _⟩ => ⟨S1024x1024, .f32⟩
  | .hbm, ⟨15, _⟩ => ⟨S2x128x4x64x128, .f32⟩
  | .hbm, ⟨16, _⟩ => ⟨S2x128x4x64x2x64, .f32⟩
  | .hbm, ⟨17, _⟩ => ⟨S2x128x4x2x64x64, .f32⟩
  | .hbm, ⟨18, _⟩ => ⟨S2x128x8x64x64, .f32⟩
  | .hbm, ⟨19, _⟩ => ⟨S2x8192x512, .f32⟩
  | .hbm, ⟨20, _⟩ => ⟨S2x128x64x8x64, .f32⟩
  | .hbm, ⟨21, _⟩ => ⟨S2x128x8x64x64, .f32⟩
  | .hbm, ⟨22, _⟩ => ⟨S2x128x64x8x64, .f32⟩
  | .hbm, ⟨23, _⟩ => ⟨S2x8192x8x64, .f32⟩
  | .hbm, ⟨24, _⟩ => ⟨S2x8192x8x64, .f32⟩
  | .hbm, ⟨25, _⟩ => ⟨S2x8192x8x64, .f32⟩
  | .hbm, ⟨26, _⟩ => ⟨S_, .f32⟩
  | .hbm, ⟨27, _⟩ => ⟨S2x8192x8, .f32⟩
  | .hbm, ⟨28, _⟩ => ⟨S2x8192x8x1, .f32⟩
  | .hbm, ⟨29, _⟩ => ⟨S_, .f32⟩
  | .hbm, ⟨30, _⟩ => ⟨S2x8192x8x1, .f32⟩
  | .hbm, ⟨31, _⟩ => ⟨S2x8192x8x1, .f32⟩
  | .hbm, ⟨32, _⟩ => ⟨S2x8192x8x64, .f32⟩
  | .hbm, ⟨33, _⟩ => ⟨S2x8192x8x64, .f32⟩
  | .hbm, ⟨34, _⟩ => ⟨S2x8192x8x64, .f32⟩
  | .hbm, ⟨35, _⟩ => ⟨S_, .f32⟩
  | .hbm, ⟨36, _⟩ => ⟨S2x8192x8, .f32⟩
  | .hbm, ⟨37, _⟩ => ⟨S2x8192x8x1, .f32⟩
  | .hbm, ⟨38, _⟩ => ⟨S_, .f32⟩
  | .hbm, ⟨39, _⟩ => ⟨S2x8192x8x1, .f32⟩
  | .hbm, ⟨40, _⟩ => ⟨S2x8192x8x1, .f32⟩
  | .hbm, ⟨41, _⟩ => ⟨S2x8192x8x64, .f32⟩
  | .hbm, ⟨42, _⟩ => ⟨S2x8192x8x64, .f32⟩
  | .hbm, ⟨43, _⟩ => ⟨S_, .f32⟩
  | .hbm, ⟨44, _⟩ => ⟨S2x8192x8x1, .f32⟩
  | .hbm, ⟨45, _⟩ => ⟨S2x8192x8x1, .f32⟩
  | .hbm, ⟨46, _⟩ => ⟨S2x8192x8x1, .f32⟩
  | .hbm, ⟨47, _⟩ => ⟨S2x8192x8x64, .f32⟩
  | .hbm, ⟨48, _⟩ => ⟨S2x8192x8x64, .f32⟩
  | .hbm, ⟨49, _⟩ => ⟨S2x8192x512, .f32⟩
  | .hbm, ⟨50, _⟩ => ⟨S1x1x512, .f32⟩
  | .hbm, ⟨51, _⟩ => ⟨S2x8192x512, .f32⟩
  | .hbm, ⟨52, _⟩ => ⟨S2x8192x512, .f32⟩
  | .hbm, ⟨53, _⟩ => ⟨S1x1x512, .f32⟩
  | .hbm, ⟨54, _⟩ => ⟨S2x8192x512, .f32⟩
  | .hbm, ⟨55, _⟩ => ⟨S2x8192x512, .f32⟩
  | .hbm, ⟨56, _⟩ => ⟨S2x8192x512, .f32⟩
  | .hbm, ⟨57, _⟩ => ⟨S2x8192x512, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x1024, .f32⟩
  | .hbm, ⟨73, _⟩ => ⟨S2x8192x1024, .f32⟩
  | .hbm, ⟨74, _⟩ => ⟨S1x1x1024, .f32⟩
  | .hbm, ⟨75, _⟩ => ⟨S2x8192x1024, .f32⟩
  | .hbm, ⟨76, _⟩ => ⟨S2x8192x1024, .f32⟩
  | .hbm, ⟨77, _⟩ => ⟨S2x8192x1024, .f32⟩
  | .hbm, ⟨78, _⟩ => ⟨S2x8192x4x256, .f32⟩
  | .hbm, ⟨79, _⟩ => ⟨S2x256x1024, .f32⟩
  | .hbm, ⟨80, _⟩ => ⟨S2x256x4x256, .f32⟩
  | .hbm, ⟨81, _⟩ => ⟨S2x256x1024, .f32⟩
  | .hbm, ⟨82, _⟩ => ⟨S2x256x4x256, .f32⟩
  | .hbm, ⟨83, _⟩ => ⟨S2x4x8192x256, .f32⟩
  | .hbm, ⟨84, _⟩ => ⟨S_, .f32⟩
  | .hbm, ⟨85, _⟩ => ⟨S2x4x8192x256, .f32⟩
  | .hbm, ⟨86, _⟩ => ⟨S2x4x8192x256, .f32⟩
  | .hbm, ⟨87, _⟩ => ⟨S_, .f32⟩
  | .hbm, ⟨88, _⟩ => ⟨S2x4x8192, .f32⟩
  | .hbm, ⟨89, _⟩ => ⟨S_, .f32⟩
  | .hbm, ⟨90, _⟩ => ⟨S2x4x8192, .f32⟩
  | .hbm, ⟨91, _⟩ => ⟨S2x4x8192, .f32⟩
  | .hbm, ⟨92, _⟩ => ⟨S2x4x8192x1, .f32⟩
  | .hbm, ⟨93, _⟩ => ⟨S2x4x8192x256, .f32⟩
  | .hbm, ⟨94, _⟩ => ⟨S2x4x8192x256, .f32⟩
  | .hbm, ⟨95, _⟩ => ⟨S2x4x8192x256, .f32⟩
  | .hbm, ⟨96, _⟩ => ⟨S_, .f32⟩
  | .hbm, ⟨97, _⟩ => ⟨S2x4x8192, .f32⟩
  | .hbm, ⟨98, _⟩ => ⟨S2x4x8192x1, .f32⟩
  | .hbm, ⟨99, _⟩ => ⟨S2x4x8192x256, .f32⟩
  | .hbm, ⟨100, _⟩ => ⟨S2x4x8192x256, .f32⟩
  | .hbm, ⟨101, _⟩ => ⟨S2x4x256x8192, .f32⟩
  | .hbm, ⟨102, _⟩ => ⟨S2x8192x4x256, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x3096 : Shape := ⟨2, ![1024, 3096]⟩
abbrev S24 : Shape := ⟨1, ![24]⟩
abbrev S1024x128 : Shape := ⟨2, ![1024, 128]⟩
abbrev S1024x2x64 : Shape := ⟨3, ![1024, 2, 64]⟩
abbrev S_ : Shape := ⟨0, ![]⟩
abbrev S1024x2x128 : Shape := ⟨3, ![1024, 2, 128]⟩
abbrev S1024x256 : Shape := ⟨2, ![1024, 256]⟩
abbrev S1024x512 : Shape := ⟨2, ![1024, 512]⟩
abbrev S2x64x1024 : Shape := ⟨3, ![2, 64, 1024]⟩
abbrev S2x80x1024 : Shape := ⟨3, ![2, 80, 1024]⟩
abbrev S160x1024 : Shape := ⟨2, ![160, 1024]⟩
abbrev S320x1024 : Shape := ⟨2, ![320, 1024]⟩
abbrev S1024x24 : Shape := ⟨2, ![1024, 24]⟩
abbrev S1024x2x4x3 : Shape := ⟨4, ![1024, 2, 4, 3]⟩
abbrev S2x3x4x1024 : Shape := ⟨4, ![2, 3, 4, 1024]⟩
abbrev S2x12x1024 : Shape := ⟨3, ![2, 12, 1024]⟩
abbrev S2x16x1024 : Shape := ⟨3, ![2, 16, 1024]⟩
abbrev S32x1024 : Shape := ⟨2, ![32, 1024]⟩
abbrev S1x24 : Shape := ⟨2, ![1, 24]⟩
abbrev S1x2x4x3 : Shape := ⟨4, ![1, 2, 4, 3]⟩
abbrev S2x3x4x1 : Shape := ⟨4, ![2, 3, 4, 1]⟩
abbrev S2x12x1 : Shape := ⟨3, ![2, 12, 1]⟩
abbrev S2x16x1 : Shape := ⟨3, ![2, 16, 1]⟩
abbrev S32x1 : Shape := ⟨2, ![32, 1]⟩
abbrev S512x1024 : Shape := ⟨2, ![512, 1024]⟩
abbrev S1024x1792 : Shape := ⟨2, ![1024, 1792]⟩
abbrev S16384x1024 : Shape := ⟨2, ![16384, 1024]⟩
abbrev S1x1024 : Shape := ⟨2, ![1, 1024]⟩
abbrev S2x64x2x64x512 : Shape := ⟨5, ![2, 64, 2, 64, 512]⟩
abbrev S2x8192x256 : Shape := ⟨3, ![2, 8192, 256]⟩
abbrev S2x8192x512 : Shape := ⟨3, ![2, 8192, 512]⟩
abbrev S2x16x160x512 : Shape := ⟨4, ![2, 16, 160, 512]⟩
abbrev S2x64x160x128 : Shape := ⟨4, ![2, 64, 160, 128]⟩
abbrev S2x64x2x16x128 : Shape := ⟨5, ![2, 64, 2, 16, 128]⟩
abbrev S2x8192x1792 : Shape := ⟨3, ![2, 8192, 1792]⟩
abbrev S1x4x2x64x512 : Shape := ⟨5, ![1, 4, 2, 64, 512]⟩
abbrev S1x512x256 : Shape := ⟨3, ![1, 512, 256]⟩
abbrev S1x512x512 : Shape := ⟨3, ![1, 512, 512]⟩
abbrev S1x1x160x512 : Shape := ⟨4, ![1, 1, 160, 512]⟩
abbrev S1x4x160x128 : Shape := ⟨4, ![1, 4, 160, 128]⟩
abbrev S1x4x2x16x128 : Shape := ⟨5, ![1, 4, 2, 16, 128]⟩
abbrev S1x512x1792 : Shape := ⟨3, ![1, 512, 1792]⟩
abbrev S512 : Shape := ⟨1, ![512]⟩
abbrev S512x1 : Shape := ⟨2, ![512, 1]⟩
abbrev S512x512 : Shape := ⟨2, ![512, 512]⟩
abbrev S64x128 : Shape := ⟨2, ![64, 128]⟩
abbrev S1x1x1x64x128 : Shape := ⟨5, ![1, 1, 1, 64, 128]⟩
abbrev S512x256 : Shape := ⟨2, ![512, 256]⟩
abbrev S512x1792 : Shape := ⟨2, ![512, 1792]⟩
abbrev S320x512 : Shape := ⟨2, ![320, 512]⟩
abbrev S160x512 : Shape := ⟨2, ![160, 512]⟩
abbrev S160x128 : Shape := ⟨2, ![160, 128]⟩
abbrev S1x1x160x128 : Shape := ⟨4, ![1, 1, 160, 128]⟩
abbrev S32x512 : Shape := ⟨2, ![32, 512]⟩
abbrev S16x128 : Shape := ⟨2, ![16, 128]⟩
abbrev S1x1x1x16x128 : Shape := ⟨5, ![1, 1, 1, 16, 128]⟩

abbrev nBuf : Space → Nat
  | .hbm => 67
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3096, .f32⟩
  | .hbm, ⟨3, _⟩ => ⟨S24, .f32⟩
  | .hbm, ⟨4, _⟩ => ⟨S1024x128, .f32⟩
  | .hbm, ⟨5, _⟩ => ⟨S1024x2x64, .f32⟩
  | .hbm, ⟨6, _⟩ => ⟨S_, .i32⟩
  | .hbm, ⟨7, _⟩ => ⟨S_, .f32⟩
  | .hbm, ⟨8, _⟩ => ⟨S1024x2x128, .f32⟩
  | .hbm, ⟨9, _⟩ => ⟨S1024x256, .f32⟩
  | .hbm, ⟨10, _⟩ => ⟨S1024x128, .f32⟩
  | .hbm, ⟨11, _⟩ => ⟨S1024x2x64, .f32⟩
  | .hbm, ⟨12, _⟩ => ⟨S_, .i32⟩
  | .hbm, ⟨13, _⟩ => ⟨S_, .f32⟩
  | .hbm, ⟨14, _⟩ => ⟨S1024x2x128, .f32⟩
  | .hbm, ⟨15, _⟩ => ⟨S1024x256, .f32⟩
  | .hbm, ⟨16, _⟩ => ⟨S1024x512, .f32⟩
  | .hbm, ⟨17, _⟩ => ⟨S1024x128, .f32⟩
  | .hbm, ⟨18, _⟩ => ⟨S1024x2x64, .f32⟩
  | .hbm, ⟨19, _⟩ => ⟨S2x64x1024, .f32⟩
  | .hbm, ⟨20, _⟩ => ⟨S_, .i32⟩
  | .hbm, ⟨21, _⟩ => ⟨S_, .f32⟩
  | .hbm, ⟨22, _⟩ => ⟨S2x80x1024, .f32⟩
  | .hbm, ⟨23, _⟩ => ⟨S160x1024, .f32⟩
  | .hbm, ⟨24, _⟩ => ⟨S1024x128, .f32⟩
  | .hbm, ⟨25, _⟩ => ⟨S1024x2x64, .f32⟩
  | .hbm, ⟨26, _⟩ => ⟨S2x64x1024, .f32⟩
  | .hbm, ⟨27, _⟩ => ⟨S_, .i32⟩
  | .hbm, ⟨28, _⟩ => ⟨S_, .f32⟩
  | .hbm, ⟨29, _⟩ => ⟨S2x80x1024, .f32⟩
  | .hbm, ⟨30, _⟩ => ⟨S160x1024, .f32⟩
  | .hbm, ⟨31, _⟩ => ⟨S320x1024, .f32⟩
  | .hbm, ⟨32, _⟩ => ⟨S1024x24, .f32⟩
  | .hbm, ⟨33, _⟩ => ⟨S1024x2x4x3, .f32⟩
  | .hbm, ⟨34, _⟩ => ⟨S2x3x4x1024, .f32⟩
  | .hbm, ⟨35, _⟩ => ⟨S2x12x1024, .f32⟩
  | .hbm, ⟨36, _⟩ => ⟨S_, .i32⟩
  | .hbm, ⟨37, _⟩ => ⟨S_, .f32⟩
  | .hbm, ⟨38, _⟩ => ⟨S2x16x1024, .f32⟩
  | .hbm, ⟨39, _⟩ => ⟨S32x1024, .f32⟩
  | .hbm, ⟨40, _⟩ => ⟨S1x24, .f32⟩
  | .hbm, ⟨41, _⟩ => ⟨S1x2x4x3, .f32⟩
  | .hbm, ⟨42, _⟩ => ⟨S2x3x4x1, .f32⟩
  | .hbm, ⟨43, _⟩ => ⟨S2x12x1, .f32⟩
  | .hbm, ⟨44, _⟩ => ⟨S_, .i32⟩
  | .hbm, ⟨45, _⟩ => ⟨S_, .f32⟩
  | .hbm, ⟨46, _⟩ => ⟨S2x16x1, .f32⟩
  | .hbm, ⟨47, _⟩ => ⟨S32x1, .f32⟩
  | .hbm, ⟨48, _⟩ => ⟨S1024x512, .f32⟩
  | .hbm, ⟨49, _⟩ => ⟨S512x1024, .f32⟩
  | .hbm, ⟨50, _⟩ => ⟨S1024x256, .f32⟩
  | .hbm, ⟨51, _⟩ => ⟨S512x1024, .bf16⟩
  | .hbm, ⟨52, _⟩ => ⟨S1024x256, .bf16⟩
  | .hbm, ⟨53, _⟩ => ⟨S1024x512, .bf16⟩
  | .hbm, ⟨54, _⟩ => ⟨S320x1024, .bf16⟩
  | .hbm, ⟨55, _⟩ => ⟨S32x1024, .bf16⟩
  | .hbm, ⟨56, _⟩ => ⟨S1024x1792, .f32⟩
  | .hbm, ⟨57, _⟩ => ⟨S1024x1792, .bf16⟩
  | .hbm, ⟨58, _⟩ => ⟨S16384x1024, .f32⟩
  | .hbm, ⟨59, _⟩ => ⟨S1x1024, .f32⟩
  | .hbm, ⟨60, _⟩ => ⟨S2x64x2x64x512, .bf16⟩
  | .hbm, ⟨61, _⟩ => ⟨S2x8192x256, .f32⟩
  | .hbm, ⟨62, _⟩ => ⟨S2x8192x512, .bf16⟩
  | .hbm, ⟨63, _⟩ => ⟨S2x16x160x512, .bf16⟩
  | .hbm, ⟨64, _⟩ => ⟨S2x64x160x128, .bf16⟩
  | .hbm, ⟨65, _⟩ => ⟨S2x64x2x16x128, .f32⟩
  | .hbm, ⟨66, _⟩ => ⟨S2x8192x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S1024x256, .bf16⟩
  | .local _ .vmem, ⟨5, _⟩ => ⟨S1024x512, .bf16⟩
  | .local _ .vmem, ⟨6, _⟩ => ⟨S320x1024, .bf16⟩
  | .local _ .vmem, ⟨7, _⟩ => ⟨S32x1024, .bf16⟩
  | .local _ .vmem, ⟨8, _⟩ => ⟨S32x1, .f32⟩
  | .local _ .vmem, ⟨9, _⟩ => ⟨S1024x1792, .bf16⟩
  | .local _ .vmem, ⟨10, _⟩ => ⟨S1x4x2x64x512, .bf16⟩
  | .local _ .vmem, ⟨11, _⟩ => ⟨S1x4x2x64x512, .bf16⟩
  | .local _ .vmem, ⟨12, _⟩ => ⟨S1x512x256, .f32⟩
  | .local _ .vmem, ⟨13, _⟩ => ⟨S1x512x256, .f32⟩
  | .local _ .vmem, ⟨14, _⟩ => ⟨S1x512x512, .bf16⟩
  | .local _ .vmem, ⟨15, _⟩ => ⟨S1x512x512, .bf16⟩
  | .local _ .vmem, ⟨16, _⟩ => ⟨S1x1x160x512, .bf16⟩
  | .local _ .vmem, ⟨17, _⟩ => ⟨S1x1x160x512, .bf16⟩
  | .local _ .vmem, ⟨18, _⟩ => ⟨S1x4x160x128, .bf16⟩
  | .local _ .vmem, ⟨19, _⟩ => ⟨S1x4x160x128, .bf16⟩
  | .local _ .vmem, ⟨20, _⟩ => ⟨S1x4x2x16x128, .f32⟩
  | .local _ .vmem, ⟨21, _⟩ => ⟨S1x4x2x16x128, .f32⟩
  | .local _ .vmem, ⟨22, _⟩ => ⟨S1x512x1792, .f32⟩
  | .local _ .vmem, ⟨23, _⟩ => ⟨S1x512x1792, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call3_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_call4_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_call5_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev main_v44_2 : Ref sig .tc := ⟨.hbm, 62, rfl⟩
abbrev main_v44_3 : Ref sig .tc := ⟨.hbm, 63, rfl⟩
abbrev main_v44_4 : Ref sig .tc := ⟨.hbm, 64, rfl⟩
abbrev main_v44_5 : Ref sig .tc := ⟨.hbm, 65, rfl⟩
abbrev main_v44_6 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1792 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4x2x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x160x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x160x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x2x16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x1792 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel4Ideal.lean ====
variable {F : FTy → Type} [FloatOps F] [Named F]
def κ : String → Option EReal := fun
  | "scale" => some (((1 / 8) * (Real.log 2)⁻¹ : ℝ) : EReal)
  | _ => none
-- ==== Reference4Ideal.lean ====
abbrev S2x8192x1024 : Shape := ⟨3, ![2, 8192, 1024]⟩
abbrev S1024 : Shape := ⟨1, ![1024]⟩
abbrev S1024x3096 : Shape := ⟨2, ![1024, 3096]⟩
abbrev S24 : Shape := ⟨1, ![24]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3096 : Shape := ⟨3, ![2, 8192, 3096]⟩
abbrev S2x8192x512 : Shape := ⟨3, ![2, 8192, 512]⟩
abbrev S2x64x128x2x4x64 : Shape := ⟨6, ![2, 64, 128, 2, 4, 64]⟩
abbrev S2x64x2x64x4x128 : Shape := ⟨6, ![2, 64, 2, 64, 4, 128]⟩
abbrev S2x64x2x64x512 : Shape := ⟨5, ![2, 64, 2, 64, 512]⟩
abbrev S16x64 : Shape := ⟨2, ![16, 64]⟩
abbrev S1x16x1x1x64 : Shape := ⟨5, ![1, 16, 1, 1, 64]⟩
abbrev S16x16x64x2x64 : Shape := ⟨5, ![16, 16, 64, 2, 64]⟩
abbrev S2x8192x2x64 : Shape := ⟨4, ![2, 8192, 2, 64]⟩
abbrev S2x8192x128 : Shape := ⟨3, ![2, 8192, 128]⟩
abbrev S2x8192x2x128 : Shape := ⟨4, ![2, 8192, 2, 128]⟩
abbrev S2x8192x1x2x128 : Shape := ⟨5, ![2, 8192, 1, 2, 128]⟩
abbrev S2x8192x2x2x128 : Shape := ⟨5, ![2, 8192, 2, 2, 128]⟩
abbrev S2x8192x2x1 : Shape := ⟨4, ![2, 8192, 2, 1]⟩
abbrev S2x8192x2x15 : Shape := ⟨4, ![2, 8192, 2, 15]⟩
abbrev S2x8192x2x80 : Shape := ⟨4, ![2, 8192, 2, 80]⟩
abbrev S2x16x512x160 : Shape := ⟨4, ![2, 16, 512, 160]⟩
abbrev S2x16x160x512 : Shape := ⟨4, ![2, 16, 160, 512]⟩
abbrev S2x64x128x160 : Shape := ⟨4, ![2, 64, 128, 160]⟩
abbrev S2x64x160x128 : Shape := ⟨4, ![2, 64, 160, 128]⟩
abbrev S2x8192x24 : Shape := ⟨3, ![2, 8192, 24]⟩
abbrev S1x1x24 : Shape := ⟨3, ![1, 1, 24]⟩
abbrev S2x64x128x2x4x3 : Shape := ⟨6, ![2, 64, 128, 2, 4, 3]⟩
abbrev S2x64x2x3x4x128 : Shape := ⟨6, ![2, 64, 2, 3, 4, 128]⟩
abbrev S2x64x2x12x128 : Shape := ⟨5, ![2, 64, 2, 12, 128]⟩
abbrev S2x64x2x4x128 : Shape := ⟨5, ![2, 64, 2, 4, 128]⟩
abbrev S2x64x2x16x128 : Shape := ⟨5, ![2, 64, 2, 16, 128]⟩
abbrev S2x8192x256 : Shape := ⟨3, ![2, 8192, 256]⟩
abbrev S2x8192x1792 : Shape := ⟨3, ![2, 8192, 1792]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3096, .f32⟩
  | .hbm, ⟨3, _⟩ => ⟨S24, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x3096, .f32⟩
  | .hbm, ⟨21, _⟩ => ⟨S2x8192x512, .f32⟩
  | .hbm, ⟨22, _⟩ => ⟨S_, .f32⟩
  | .hbm, ⟨23, _⟩ => ⟨S2x8192x512, .f32⟩
  | .hbm, ⟨24, _⟩ => ⟨S2x8192x512, .f32⟩
  | .hbm, ⟨25, _⟩ => ⟨S_, .f32⟩
  | .hbm, ⟨26, _⟩ => ⟨S_, .f32⟩
  | .hbm, ⟨27, _⟩ => ⟨S2x8192x512, .f32⟩
  | .hbm, ⟨28, _⟩ => ⟨S2x8192x512, .f32⟩
  | .hbm, ⟨29, _⟩ => ⟨S2x64x128x2x4x64, .f32⟩
  | .hbm, ⟨30, _⟩ => ⟨S2x64x2x64x4x128, .f32⟩
  | .hbm, ⟨31, _⟩ => ⟨S2x64x2x64x512, .f32⟩
  | .hbm, ⟨32, _⟩ => ⟨S16x64, .i32⟩
  | .hbm, ⟨33, _⟩ => ⟨S16x64, .i32⟩
  | .hbm, ⟨34, _⟩ => ⟨S_, .i32⟩
  | .hbm, ⟨35, _⟩ => ⟨S16x64, .i32⟩
  | .hbm, ⟨36, _⟩ => ⟨S16x64, .i32⟩
  | .hbm, ⟨37, _⟩ => ⟨S16x64, .i1⟩
  | .hbm, ⟨38, _⟩ => ⟨S16x64, .f32⟩
  | .hbm, ⟨39, _⟩ => ⟨S1x16x1x1x64, .f32⟩
  | .hbm, ⟨40, _⟩ => ⟨S16x16x64x2x64, .f32⟩
  | .hbm, ⟨41, _⟩ => ⟨S2x8192x2x64, .f32⟩
  | .hbm, ⟨42, _⟩ => ⟨S2x8192x128, .f32⟩
  | .hbm, ⟨43, _⟩ => ⟨S2x8192x2x64, .f32⟩
  | .hbm, ⟨44, _⟩ => ⟨S2x8192x2x128, .f32⟩
  | .hbm, ⟨45, _⟩ => ⟨S2x8192x128, .f32⟩
  | .hbm, ⟨46, _⟩ => ⟨S2x8192x2x64, .f32⟩
  | .hbm, ⟨47, _⟩ => ⟨S_, .f32⟩
  | .hbm, ⟨48, _⟩ => ⟨S2x8192x2x64, .f32⟩
  | .hbm, ⟨49, _⟩ => ⟨S2x8192x2x128, .f32⟩
  | .hbm, ⟨50, _⟩ => ⟨S2x8192x1x2x128, .f32⟩
  | .hbm, ⟨51, _⟩ => ⟨S2x8192x1x2x128, .f32⟩
  | .hbm, ⟨52, _⟩ => ⟨S2x8192x2x2x128, .f32⟩
  | .hbm, ⟨53, _⟩ => ⟨S2x8192x512, .f32⟩
  | .hbm, ⟨54, _⟩ => ⟨S_, .f32⟩
  | .hbm, ⟨55, _⟩ => ⟨S2x8192x2x1, .f32⟩
  | .hbm, ⟨56, _⟩ => ⟨S_, .f32⟩
  | .hbm, ⟨57, _⟩ => ⟨S2x8192x2x15, .f32⟩
  | .hbm, ⟨58, _⟩ => ⟨S2x8192x128, .f32⟩
  | .hbm, ⟨59, _⟩ => ⟨S2x8192x2x64, .f32⟩
  | .hbm, ⟨60, _⟩ => ⟨S2x8192x2x80, .f32⟩
  | .hbm, ⟨61, _⟩ => ⟨S2x8192x128, .f32⟩
  | .hbm, ⟨62, _⟩ => ⟨S2x8192x2x64, .f32⟩
  | .hbm, ⟨63, _⟩ => ⟨S2x8192x2x80, .f32⟩
  | .hbm, ⟨64, _⟩ => ⟨S2x16x512x160, .f32⟩
  | .hbm, ⟨65, _⟩ => ⟨S2x16x160x512, .f32⟩
  | .hbm, ⟨66, _⟩ => ⟨S2x64x128x160, .f32⟩
  | .hbm, ⟨67, _⟩ => ⟨S2x64x160x128, .f32⟩
  | .hbm, ⟨68, _⟩ => ⟨S2x8192x24, .f32⟩
  | .hbm, ⟨69, _⟩ => ⟨S1x1x24, .f32⟩
  | .hbm, ⟨70, _⟩ => ⟨S2x8192x24, .f32⟩
  | .hbm, ⟨71, _⟩ => ⟨S2x8192x24, .f32⟩
  | .hbm, ⟨72, _⟩ => ⟨S2x64x128x2x4x3, .f32⟩
  | .hbm, ⟨73, _⟩ => ⟨S2x64x2x3x4x128, .f32⟩
  | .hbm, ⟨74, _⟩ => ⟨S2x64x2x12x128, .f32⟩
  | .hbm, ⟨75, _⟩ => ⟨S_, .f32⟩
  | .hbm, ⟨76, _⟩ => ⟨S2x64x2x4x128, .f32⟩
  | .hbm, ⟨77, _⟩ => ⟨S2x64x2x16x128, .f32⟩
  | .hbm, ⟨78, _⟩ => ⟨S2x64x2x64x512, .bf16⟩
  | .hbm, ⟨79, _⟩ => ⟨S2x8192x256, .f32⟩
  | .hbm, ⟨80, _⟩ => ⟨S2x8192x512, .bf16⟩
  | .hbm, ⟨81, _⟩ => ⟨S2x16x160x512, .bf16⟩
  | .hbm, ⟨82, _⟩ => ⟨S2x64x160x128, .bf16⟩
  | .hbm, ⟨83, _⟩ => ⟨S2x8192x1792, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]
-- ==== Kernel5.lean ====
abbrev S2x256x1024 : Shape := ⟨3, ![2, 256, 1024]⟩
abbrev S1024 : Shape := ⟨1, ![1024]⟩
abbrev S1024x2048 : Shape := ⟨2, ![1024, 2048]⟩
abbrev S512x1024 : Shape := ⟨2, ![512, 1024]⟩
abbrev S1x1024 : Shape := ⟨2, ![1, 1024]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 4
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S512x1024, .f32⟩
  | .hbm, ⟨4, _⟩ => ⟨S1024x2048, .bf16⟩
  | .hbm, ⟨5, _⟩ => ⟨S1x1024, .f32⟩
  | .hbm, ⟨6, _⟩ => ⟨S512x2048, .bf16⟩
  | .local _ .vmem, ⟨0, _⟩ => ⟨S512x1024, .f32⟩
  | .local _ .vmem, ⟨1, _⟩ => ⟨S1x1024, .f32⟩
  | .local _ .vmem, ⟨2, _⟩ => ⟨S1024x2048, .bf16⟩
  | .local _ .vmem, ⟨3, _⟩ => ⟨S512x2048, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference5Ideal.lean ====
abbrev S2x256x1024 : Shape := ⟨3, ![2, 256, 1024]⟩
abbrev S1024 : Shape := ⟨1, ![1024]⟩
abbrev S1024x2048 : Shape := ⟨2, ![1024, 2048]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩
abbrev S512x2048 : Shape := ⟨2, ![512, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x2048, .f32⟩
  | .hbm, ⟨20, _⟩ => ⟨S512x2048, .f32⟩
  | .hbm, ⟨21, _⟩ => ⟨S512x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.StateStep.lean ====
/- One chunk of the state recurrence, as the kernel computes it: the two 64×64 states of a pair of heads stand on the
   diagonal of one 128×128 matrix, the chunk's transition and increment are spread the same way, and the product is
   taken in three parts (high·high + (high·low + low·high)). At exact arithmetic the low parts of finite numbers are
   zero, the zero blocks stay zero, and the step is the two heads' own `S ↦ A S + D`. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.State

open Cert.KernelIdeal Cert.KernelIdeal.Gen

/-- Two 64×64 matrices given side by side (columns 0–63 and 64–127), as the blocks of a block-diagonal 128×128 matrix. -/
def diag (s : Fin 64 → Fin 128 → EReal) (i j : Fin 128) : EReal :=
  if h : i.val < 64 then (if j.val < 64 then s ⟨i.val, h⟩ j else 0)
  else (if j.val < 64 then 0 else s ⟨i.val - 64, by omega⟩ j)

/-- The recurrence's step on two heads side by side: in column `c`, head `c / 64`'s transition times the state's column,
    plus the increment. -/
def next (a d s : Fin 64 → Fin 128 → EReal) (i : Fin 64) (c : Fin 128) : EReal :=
  (∑ k : Fin 64, a i ⟨c.val / 64 * 64 + k.val, by omega⟩ * s k c) + d i c

/-- Neither infinity. -/
def Fin' (x : EReal) : Prop := x ≠ ⊤ ∧ x ≠ ⊥

theorem fin_zero : Fin' 0 := ⟨EReal.zero_ne_top, EReal.zero_ne_bot⟩

theorem Fin'.real {x : EReal} (h : Fin' x) : ∃ r : ℝ, x = (r : EReal) := ⟨x.toReal, (EReal.coe_toReal h.1 h.2).symm⟩

theorem fin_coe (r : ℝ) : Fin' (r : EReal) := ⟨EReal.coe_ne_top r, EReal.coe_ne_bot r⟩

theorem Fin'.add {x y : EReal} (hx : Fin' x) (hy : Fin' y) : Fin' (x + y) := by
  obtain ⟨a, rfl⟩ := hx.real; obtain ⟨b, rfl⟩ := hy.real
  rw [← EReal.coe_add]; exact fin_coe _

theorem Fin'.mul {x y : EReal} (hx : Fin' x) (hy : Fin' y) : Fin' (x * y) := by
  obtain ⟨a, rfl⟩ := hx.real; obtain ⟨b, rfl⟩ := hy.real
  rw [← EReal.coe_mul]; exact fin_coe _

theorem Fin'.sub_self {x : EReal} (hx : Fin' x) : x - x = 0 := by
  obtain ⟨a, rfl⟩ := hx.real
  rw [← EReal.coe_sub, _root_.sub_self, EReal.coe_zero]

theorem fin_sum {n : ℕ} (f : Fin n → EReal) (h : ∀ k, Fin' (f k)) : Fin' (∑ k, f k) := by
  induction n with
  | zero => simpa using fin_zero
  | succ n ih => rw [Fin.sum_univ_succ]; exact (h 0).add (ih _ fun k => h k.succ)

theorem fin_diag {s : Fin 64 → Fin 128 → EReal} (h : ∀ i c, Fin' (s i c)) (i j : Fin 128) : Fin' (diag s i j) := by
  unfold diag
  split_ifs
  exacts [h _ _, fin_zero, fin_zero, h _ _]

/-- The step of finite matrices is finite. -/
theorem fin_next {a d s : Fin 64 → Fin 128 → EReal} (ha : ∀ i c, Fin' (a i c)) (hd : ∀ i c, Fin' (d i c))
    (hs : ∀ i c, Fin' (s i c)) (i : Fin 64) (c : Fin 128) : Fin' (next a d s i c) :=
  (fin_sum _ fun _ => (ha _ _).mul (hs _ _)).add (hd _ _)

theorem sum_halves (f : Fin 128 → EReal) :
    ∑ x, f x = (∑ k : Fin 64, f ⟨k.val, by omega⟩) + ∑ k : Fin 64, f ⟨64 + k.val, by omega⟩ :=
  Fin.sum_univ_add (a := 64) (b := 64) f

/-- The product of block-diagonal matrices plus a third is the block-diagonal matrix of the two steps. -/
theorem diag_next (a d s : Fin 64 → Fin 128 → EReal) (i j : Fin 128) :
    (∑ x, diag a i x * diag s x j) + diag d i j = diag (next a d s) i j := by
  rw [sum_halves]
  by_cases hi : i.val < 64 <;> by_cases hj : j.val < 64
  · have hc : j.val / 64 = 0 := by omega
    simp [diag, next, hi, hj, hc]
  · simp [diag, hi, hj]
  · simp [diag, hi, hj]
  · have hc : j.val / 64 = 1 := by omega
    simp [diag, next, hi, hj, hc]

/-- One chunk's step as the kernel computes it, on the block-diagonal state. -/
def step (st : FVec Ideal S128x128 .f32) (a d : FVec Ideal S1x1x1x64x128 .f32) : FVec Ideal S128x128 .f32 :=
  k0_pay27 (F := Ideal) st a d

/-- What the kernel writes of a block-diagonal state: its two blocks side by side. -/
def side (st : FVec Ideal S128x128 .f32) : FVec Ideal S1x1x1x64x128 .bf16 := k0_pay16 (F := Ideal) st

theorem select_lt : ∀ (x : Fin 128) (p q : EReal),
    Scalar.select (IntOp.cmpi CmpIPredicate.slt (BitVec.ofNat 32 x.val) 64#32) p q = if x.val < 64 then p else q := by
  have key : ∀ x : Fin 128, IntOp.cmpi CmpIPredicate.slt (BitVec.ofNat 32 x.val) 64#32 = if x.val < 64 then 1#1 else 0#1 := by decide
  intro x p q
  rw [key x]
  by_cases h : x.val < 64
  · rw [if_pos h, if_pos h]; rfl
  · rw [if_neg h, if_neg h]; rfl

/-- The step at an index: the three partial products over block-diagonal matrices, and the increment. -/
theorem step_apply (st : FVec Ideal S128x128 .f32) (a d : FVec Ideal S1x1x1x64x128 .f32) (i j : Fin 128) :
    step st a d (ix2 i j)
      = (∑ x, diag (fun i c => a (ix5 0 0 0 i c)) i x * st (ix2 x j)
          + (∑ x, diag (fun i c => a (ix5 0 0 0 i c)) i x * (st (ix2 x j) - st (ix2 x j))
            + ∑ x, (diag (fun i c => a (ix5 0 0 0 i c)) i x - diag (fun i c => a (ix5 0 0 0 i c)) i x) * st (ix2 x j)))
        + diag (fun i c => d (ix5 0 0 0 i c)) i j := by
  pointwise [step, k0_pay27]
  simp only [select_lt, diag]

/-- A block-diagonal state, read side by side, is its blocks. -/
theorem side_apply (st : FVec Ideal S128x128 .f32) (i : Fin 64) (j : Fin 128) :
    side st (ix5 0 0 0 i j) = if j.val < 64 then st (ix2 ⟨i.val, by omega⟩ j) else st (ix2 ⟨64 + i.val, by omega⟩ j) := by
  pointwise [side, k0_pay16]
  exact select_lt j _ _

/-- The 128×128 state `st` is the block-diagonal matrix of the finite states `s`. -/
structure Tied (st : FVec Ideal S128x128 .f32) (s : Fin 64 → Fin 128 → EReal) : Prop where
  fin : ∀ i c, Fin' (s i c)
  eq : ∀ i j, st (ix2 i j) = diag s i j

/-- The kernel's step of a state tied to `s` is tied to the two heads' step of `s`. -/
theorem Tied.step {st : FVec Ideal S128x128 .f32} {s : Fin 64 → Fin 128 → EReal} (h : Tied st s)
    {a d : FVec Ideal S1x1x1x64x128 .f32} (ha : ∀ i c, Fin' (a (ix5 0 0 0 i c))) (hd : ∀ i c, Fin' (d (ix5 0 0 0 i c))) :
    Tied (State.step st a d) (next (fun i c => a (ix5 0 0 0 i c)) (fun i c => d (ix5 0 0 0 i c)) s) := by
  refine ⟨fin_next ha hd h.fin, fun i j => ?_⟩
  rw [step_apply]
  have e1 : ∀ x, diag s x j - diag s x j = 0 := fun x => (fin_diag h.fin x j).sub_self
  have e2 : ∀ x, diag (fun i c => a (ix5 0 0 0 i c)) i x - diag (fun i c => a (ix5 0 0 0 i c)) i x = 0 :=
    fun x => (fin_diag ha i x).sub_self
  simp only [h.eq, e1, e2, mul_zero, zero_mul, Finset.sum_const_zero, add_zero]
  exact diag_next _ _ _ i j

/-- What is written of a state tied to `s` is `s`. -/
theorem Tied.side {st : FVec Ideal S128x128 .f32} {s : Fin 64 → Fin 128 → EReal} (h : Tied st s) (i : Fin 64) (c : Fin 128) :
    State.side st (ix5 0 0 0 i c) = s i c := by
  rw [side_apply, h.eq, h.eq]
  have hi := i.isLt
  by_cases hc : c.val < 64
  · simp [diag, hi, hc]
  · simp [diag, hi, hc]

end Cert.State

end
-- ==== Proof.StateFold.lean ====
/- The kernel's body is one long straight line: eight chunks times eight pairs of heads, the steps of one chunk cut at
   different places. Each lemma here says that one of these cuts, put together, is the one step `step` (or the one
   read-out `side`) of `Proof/StateStep.lean`; all hold by unfolding. -/
module

public import proofs.«01_k».proof.Proof.StateStep

@[expose] public section

set_option maxRecDepth 16384

noncomputable section

open Idealize.ShloMosaic Idealize.ShloMosaic.TcCoe Idealize.SL.Sem

namespace Cert.State

open Cert.KernelIdeal Cert.KernelIdeal.Gen

/-- A pair's 128×128 state. -/
abbrev State := FVec Ideal S128x128 .f32
/-- One chunk's transition or increment of a pair of heads. -/
abbrev Mat := FVec Ideal S1x1x1x64x128 .f32

theorem step_299 (S : State) (a d : Mat) : k0_pay299 (F := Ideal) (k0_pay296 S a) (k0_pay297 S a) (k0_pay298 S a) d = step S a d := rfl
theorem step_257 (S : State) (a d : Mat) : k0_pay257 (F := Ideal) S (k0_pay254 a) (k0_pay255 a) (k0_pay256 a) d = step S a d := rfl
theorem step_224 (S : State) (a d : Mat) : k0_pay224 (F := Ideal) S a d = step S a d := rfl
theorem step_191 (S : State) (a d : Mat) : k0_pay191 (F := Ideal) S a d = step S a d := rfl
theorem step_161 (S : State) (a d : Mat) : k0_pay161 (F := Ideal) (k0_pay158 S a) (k0_pay159 d) (iota .tc S64x128 32 [1] iota_S64x128_d1_w32) k0_pay160 = step S a d := rfl
theorem step_120 (S : State) (a d : Mat) : k0_pay120 (F := Ideal) (k0_pay117 S a) (k0_pay118 S a) (k0_pay119 S a) d = step S a d := rfl
theorem step_78 (S : State) (a d : Mat) : k0_pay78 (F := Ideal) S (k0_pay75 a) (k0_pay76 a) (k0_pay77 a) d = step S a d := rfl
theorem step_45 (S : State) (a d : Mat) : k0_pay45 (F := Ideal) S a d = step S a d := rfl
theorem step_292 (S : State) (a d : Mat) : k0_pay292 (F := Ideal) S (k0_pay290 a) (k0_pay291 a) d = step S a d := rfl
theorem step_253 (S : State) (a d : Mat) : k0_pay253 (F := Ideal) S (k0_pay252 a) d = step S a d := rfl
theorem step_223 (S : State) (a d : Mat) : k0_pay223 (F := Ideal) S a d = step S a d := rfl
theorem step_190 (S : State) (a d : Mat) : k0_pay190 (F := Ideal) (k0_pay187 S a) (k0_pay188 d) k0_pay189 = step S a d := rfl
theorem step_157 (S : State) (a d : Mat) : k0_pay157 (F := Ideal) (k0_pay155 S a) (k0_pay156 S a) d = step S a d := rfl
theorem step_113 (S : State) (a d : Mat) : k0_pay113 (F := Ideal) S (k0_pay111 a) (k0_pay112 a) d = step S a d := rfl
theorem step_74 (S : State) (a d : Mat) : k0_pay74 (F := Ideal) S (k0_pay73 a) d = step S a d := rfl
theorem step_44 (S : State) (a d : Mat) : k0_pay44 (F := Ideal) S a d = step S a d := rfl
theorem step_288 (S : State) (a d : Mat) : k0_pay288 (F := Ideal) S (k0_pay287 a) (iota .tc S64x128 32 [1] iota_S64x128_d1_w32) d = step S a d := rfl
theorem step_251 (S : State) (a d : Mat) : k0_pay251 (F := Ideal) S a d = step S a d := rfl
theorem step_222 (S : State) (a d : Mat) : k0_pay222 (F := Ideal) (k0_pay219 S a) (k0_pay220 d) k0_pay221 (FloatOps.ofBits .f32 0#32) = step S a d := rfl
theorem step_186 (S : State) (a d : Mat) : k0_pay186 (F := Ideal) (k0_pay185 S a) d = step S a d := rfl
theorem step_151 (S : State) (a d : Mat) : k0_pay151 (F := Ideal) S (k0_pay149 a) (k0_pay150 a) d = step S a d := rfl
theorem step_109 (S : State) (a d : Mat) : k0_pay109 (F := Ideal) S (k0_pay108 a) (iota .tc S64x128 32 [1] iota_S64x128_d1_w32) d = step S a d := rfl
theorem step_72 (S : State) (a d : Mat) : k0_pay72 (F := Ideal) S a d = step S a d := rfl
theorem step_43 (S : State) (a d : Mat) : k0_pay43 (F := Ideal) (k0_pay40 S a) (k0_pay41 d) k0_pay42 (FloatOps.ofBits .f32 0#32) = step S a d := rfl
theorem step_286 (S : State) (a d : Mat) : k0_pay286 (F := Ideal) S a d = step S a d := rfl
theorem step_250 (S : State) (a d : Mat) : k0_pay250 (F := Ideal) (k0_pay246 S a) (k0_pay247 d) k0_pay248 k0_pay249 = step S a d := rfl
theorem step_218 (S : State) (a d : Mat) : k0_pay218 (F := Ideal) (k0_pay217 S a) d = step S a d := rfl
theorem step_184 (S : State) (a d : Mat) : k0_pay184 (F := Ideal) S (k0_pay181 a) (k0_pay182 a) (k0_pay183 S) d = step S a d := rfl
theorem step_147 (S : State) (a d : Mat) : k0_pay147 (F := Ideal) S (k0_pay146 a) (iota .tc S64x128 32 [1] iota_S64x128_d1_w32) 64#32 d = step S a d := rfl
theorem step_107 (S : State) (a d : Mat) : k0_pay107 (F := Ideal) S a d = step S a d := rfl
theorem step_71 (S : State) (a d : Mat) : k0_pay71 (F := Ideal) (k0_pay67 S a) (k0_pay68 d) k0_pay69 k0_pay70 = step S a d := rfl
theorem step_39 (S : State) (a d : Mat) : k0_pay39 (F := Ideal) (k0_pay38 S a) d = step S a d := rfl
theorem step_285 (S : State) (a d : Mat) : k0_pay285 (F := Ideal) (k0_pay280 S a) (k0_pay281 d) k0_pay282 k0_pay283 (k0_pay284 d) = step S a d := rfl
theorem step_245 (S : State) (a d : Mat) : k0_pay245 (F := Ideal) (k0_pay244 S a) d = step S a d := rfl
theorem step_216 (S : State) (a d : Mat) : k0_pay216 (F := Ideal) S (k0_pay212 a) (k0_pay213 a) (k0_pay214 S) (k0_pay215 S) d = step S a d := rfl
theorem step_179 (S : State) (a d : Mat) : k0_pay179 (F := Ideal) S (k0_pay177 a) (iota .tc S64x128 32 [1] iota_S64x128_d1_w32) k0_pay178 d = step S a d := rfl
theorem step_145 (S : State) (a d : Mat) : k0_pay145 (F := Ideal) S a d = step S a d := rfl
theorem step_106 (S : State) (a d : Mat) : k0_pay106 (F := Ideal) (k0_pay101 S a) (k0_pay102 d) k0_pay103 k0_pay104 (k0_pay105 d) = step S a d := rfl
theorem step_66 (S : State) (a d : Mat) : k0_pay66 (F := Ideal) (k0_pay65 S a) d = step S a d := rfl
theorem step_37 (S : State) (a d : Mat) : k0_pay37 (F := Ideal) S (k0_pay33 a) (k0_pay34 a) (k0_pay35 S) (k0_pay36 S) d = step S a d := rfl
theorem step_279 (S : State) (a d : Mat) : k0_pay279 (F := Ideal) (k0_pay278 S a) d = step S a d := rfl
theorem step_243 (S : State) (a d : Mat) : k0_pay243 (F := Ideal) (k0_pay239 a) (k0_pay240 a) (k0_pay241 S) (k0_pay242 S) d = step S a d := rfl
theorem step_210 (S : State) (a d : Mat) : k0_pay210 (F := Ideal) S (k0_pay208 a) k0_pay209 d = step S a d := rfl
theorem step_176 (S : State) (a d : Mat) : k0_pay176 (F := Ideal) S a d = step S a d := rfl
theorem step_144 (S : State) (a d : Mat) : k0_pay144 (F := Ideal) (k0_pay138 S a) (k0_pay142 d) (k0_pay143 d) = step S a d := rfl
theorem step_100 (S : State) (a d : Mat) : k0_pay100 (F := Ideal) (k0_pay99 S a) d = step S a d := rfl
theorem step_64 (S : State) (a d : Mat) : k0_pay64 (F := Ideal) (k0_pay60 a) (k0_pay61 a) (k0_pay62 S) (k0_pay63 S) d = step S a d := rfl
theorem step_31 (S : State) (a d : Mat) : k0_pay31 (F := Ideal) S (k0_pay29 a) k0_pay30 d = step S a d := rfl
theorem step_277 (S : State) (a d : Mat) : k0_pay277 (F := Ideal) (k0_pay273 a) (k0_pay274 a) (k0_pay275 S) (k0_pay276 S) d = step S a d := rfl
theorem step_237 (S : State) (a d : Mat) : k0_pay237 (F := Ideal) S (k0_pay235 a) k0_pay236 (FloatOps.ofBits .f32 0#32) d = step S a d := rfl
theorem step_207 (S : State) (a d : Mat) : k0_pay207 (F := Ideal) S a d = step S a d := rfl
theorem step_175 (S : State) (a d : Mat) : k0_pay175 (F := Ideal) (k0_pay173 S a) (k0_pay174 d) = step S a d := rfl
theorem step_137 (S : State) (a d : Mat) : k0_pay137 (F := Ideal) (k0_pay136 S a) d = step S a d := rfl
theorem step_98 (S : State) (a d : Mat) : k0_pay98 (F := Ideal) (k0_pay94 a) (k0_pay95 a) (k0_pay96 S) (k0_pay97 S) d = step S a d := rfl
theorem step_58 (S : State) (a d : Mat) : k0_pay58 (F := Ideal) S (k0_pay56 a) k0_pay57 (FloatOps.ofBits .f32 0#32) d = step S a d := rfl
theorem step_28 (S : State) (a d : Mat) : k0_pay28 (F := Ideal) S a d = step S a d := rfl
theorem step_271 (S : State) (a d : Mat) : k0_pay271 (F := Ideal) S (k0_pay268 a) k0_pay269 k0_pay270 d = step S a d := rfl
theorem step_234 (S : State) (a d : Mat) : k0_pay234 (F := Ideal) S a d = step S a d := rfl
theorem step_206 (S : State) (a d : Mat) : k0_pay206 (F := Ideal) S a d = step S a d := rfl
theorem step_172 (S : State) (a d : Mat) : k0_pay172 (F := Ideal) (k0_pay171 S a) d = step S a d := rfl
theorem step_135 (S : State) (a d : Mat) : k0_pay135 (F := Ideal) (k0_pay131 a) (k0_pay132 a) (k0_pay133 S) (k0_pay134 S) (constant S128x128 .f32 0#32) d = step S a d := rfl
theorem step_92 (S : State) (a d : Mat) : k0_pay92 (F := Ideal) S (k0_pay89 a) k0_pay90 k0_pay91 d = step S a d := rfl
theorem step_55 (S : State) (a d : Mat) : k0_pay55 (F := Ideal) S a d = step S a d := rfl
theorem step_27 (S : State) (a d : Mat) : k0_pay27 (F := Ideal) S a d = step S a d := rfl
theorem side_267 (S : State) : k0_pay267 (F := Ideal) S = side S := rfl
theorem side_266 (S : State) : k0_pay266 (F := Ideal) S = side S := rfl
theorem side_265 (S : State) : k0_pay265 (F := Ideal) S k0_pay264 = side S := rfl
theorem side_263 (S : State) : k0_pay263 (F := Ideal) S = side S := rfl
theorem side_262 (S : State) : k0_pay262 (F := Ideal) S = side S := rfl
theorem side_261 (S : State) : k0_pay261 (F := Ideal) S = side S := rfl
theorem side_260 (S : State) : k0_pay260 (F := Ideal) (k0_pay259 S) = side S := rfl
theorem side_258 (S : State) : k0_pay258 (F := Ideal) S = side S := rfl
theorem side_233 (S : State) : k0_pay233 (F := Ideal) S = side S := rfl
theorem side_232 (S : State) : k0_pay232 (F := Ideal) S = side S := rfl
theorem side_231 (S : State) : k0_pay231 (F := Ideal) S = side S := rfl
theorem side_230 (S : State) : k0_pay230 (F := Ideal) (k0_pay229 S) = side S := rfl
theorem side_228 (S : State) : k0_pay228 (F := Ideal) S = side S := rfl
theorem side_227 (S : State) : k0_pay227 (F := Ideal) S = side S := rfl
theorem side_226 (S : State) : k0_pay226 (F := Ideal) S = side S := rfl
theorem side_225 (S : State) : k0_pay225 (F := Ideal) S = side S := rfl
theorem side_205 (S : State) : k0_pay205 (F := Ideal) k0_pay202 (k0_pay203 S) (k0_pay204 S) = side S := rfl
theorem side_201 (S : State) : k0_pay201 (F := Ideal) S = side S := rfl
theorem side_200 (S : State) : k0_pay200 (F := Ideal) S = side S := rfl
theorem side_199 (S : State) : k0_pay199 (F := Ideal) S = side S := rfl
theorem side_198 (S : State) : k0_pay198 (F := Ideal) (k0_pay197 S) = side S := rfl
theorem side_196 (S : State) : k0_pay196 (F := Ideal) S = side S := rfl
theorem side_195 (S : State) : k0_pay195 (F := Ideal) S = side S := rfl
theorem side_194 (S : State) : k0_pay194 (F := Ideal) S k0_pay192 (k0_pay193 S) = side S := rfl
theorem side_170 (S : State) : k0_pay170 (F := Ideal) S = side S := rfl
theorem side_169 (S : State) : k0_pay169 (F := Ideal) (k0_pay168 S) = side S := rfl
theorem side_167 (S : State) : k0_pay167 (F := Ideal) S = side S := rfl
theorem side_166 (S : State) : k0_pay166 (F := Ideal) S = side S := rfl
theorem side_165 (S : State) : k0_pay165 (F := Ideal) S (iota .tc S64x128 32 [1] iota_S64x128_d1_w32) 64#32 = side S := rfl
theorem side_164 (S : State) : k0_pay164 (F := Ideal) S = side S := rfl
theorem side_163 (S : State) : k0_pay163 (F := Ideal) S = side S := rfl
theorem side_162 (S : State) : k0_pay162 (F := Ideal) S = side S := rfl
theorem side_129 (S : State) : k0_pay129 (F := Ideal) S = side S := rfl
theorem side_128 (S : State) : k0_pay128 (F := Ideal) S = side S := rfl
theorem side_127 (S : State) : k0_pay127 (F := Ideal) S = side S := rfl
theorem side_126 (S : State) : k0_pay126 (F := Ideal) S = side S := rfl
theorem side_125 (S : State) : k0_pay125 (F := Ideal) S = side S := rfl
theorem side_124 (S : State) : k0_pay124 (F := Ideal) (k0_pay123 S) = side S := rfl
theorem side_122 (S : State) : k0_pay122 (F := Ideal) S = side S := rfl
theorem side_121 (S : State) : k0_pay121 (F := Ideal) S = side S := rfl
theorem side_88 (S : State) : k0_pay88 (F := Ideal) S = side S := rfl
theorem side_87 (S : State) : k0_pay87 (F := Ideal) S = side S := rfl
theorem side_86 (S : State) : k0_pay86 (F := Ideal) S k0_pay85 = side S := rfl
theorem side_84 (S : State) : k0_pay84 (F := Ideal) S = side S := rfl
theorem side_83 (S : State) : k0_pay83 (F := Ideal) S = side S := rfl
theorem side_82 (S : State) : k0_pay82 (F := Ideal) S = side S := rfl
theorem side_81 (S : State) : k0_pay81 (F := Ideal) (k0_pay80 S) = side S := rfl
theorem side_79 (S : State) : k0_pay79 (F := Ideal) S = side S := rfl
theorem side_54 (S : State) : k0_pay54 (F := Ideal) S = side S := rfl
theorem side_53 (S : State) : k0_pay53 (F := Ideal) S = side S := rfl
theorem side_52 (S : State) : k0_pay52 (F := Ideal) S = side S := rfl
theorem side_51 (S : State) : k0_pay51 (F := Ideal) (k0_pay50 S) = side S := rfl
theorem side_49 (S : State) : k0_pay49 (F := Ideal) S = side S := rfl
theorem side_48 (S : State) : k0_pay48 (F := Ideal) S = side S := rfl
theorem side_47 (S : State) : k0_pay47 (F := Ideal) S = side S := rfl
theorem side_46 (S : State) : k0_pay46 (F := Ideal) S = side S := rfl
theorem side_26 (S : State) : k0_pay26 (F := Ideal) k0_pay23 (k0_pay24 S) (k0_pay25 S) = side S := rfl
theorem side_22 (S : State) : k0_pay22 (F := Ideal) S = side S := rfl
theorem side_21 (S : State) : k0_pay21 (F := Ideal) S = side S := rfl
theorem side_20 (S : State) : k0_pay20 (F := Ideal) S = side S := rfl
theorem side_19 (S : State) : k0_pay19 (F := Ideal) (k0_pay18 S) = side S := rfl
theorem side_17 (S : State) : k0_pay17 (F := Ideal) S = side S := rfl
theorem side_16 (S : State) : k0_pay16 (F := Ideal) S = side S := rfl
theorem side_15 (h : FVec Ideal S1x1x128x128 .f32) : k0_pay15 (F := Ideal) (k0_pay5 h) k0_pay13 (k0_pay14 h) = side (k0_pay5 h) := rfl
theorem load_6 (h : FVec Ideal S1x1x128x128 .f32) : k0_pay6 (F := Ideal) h = k0_pay5 h := rfl
theorem load_7 (h : FVec Ideal S1x1x128x128 .f32) : k0_pay7 (F := Ideal) h = k0_pay5 h := rfl
theorem load_8 (h : FVec Ideal S1x1x128x128 .f32) : k0_pay8 (F := Ideal) h = k0_pay5 h := rfl
theorem load_9 (h : FVec Ideal S1x1x128x128 .f32) : k0_pay9 (F := Ideal) h = k0_pay5 h := rfl
theorem load_10 (h : FVec Ideal S1x1x128x128 .f32) : k0_pay10 (F := Ideal) h = k0_pay5 h := rfl
theorem load_11 (h : FVec Ideal S1x1x128x128 .f32) : k0_pay11 (F := Ideal) h = k0_pay5 h := rfl
theorem load_12 (h : FVec Ideal S1x1x128x128 .f32) : k0_pay12 (F := Ideal) h = k0_pay5 h := rfl

end Cert.State

end
-- ==== Proof.StateChunk.lean ====
/- The states of the recurrence along the whole sequence (`states A D b p n`: before chunk `n`, of batch row `b` and head
   pair `p`), and what one chunk of the kernel's straight-line body does to a pair whose 128×128 matrix is tied to them:
   the load from the scratch, the step, the write-out, the store. -/
module

public import proofs.«01_k».proof.Proof.StateFold
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.State

open Cert.KernelIdeal Cert.KernelIdeal.Gen

/-- The states of batch row `b` and head pair `p` before chunk `n`, two heads side by side: zero at first, then one step
    of the recurrence per chunk. -/
def states (A D : FVec Ideal S2x128x4x64x128 .f32) (b p : ℕ) : ℕ → Fin 64 → Fin 128 → EReal
  | 0 => fun _ _ => 0
  | n + 1 => next (fun i c => A (ix5 ⟨b % 2, by omega⟩ ⟨n % 128, by omega⟩ ⟨p % 4, by omega⟩ i c))
      (fun i c => D (ix5 ⟨b % 2, by omega⟩ ⟨n % 128, by omega⟩ ⟨p % 4, by omega⟩ i c)) (states A D b p n)

/-- The array of all states: at chunk `n` the states before that chunk. -/
def allStates (A D : FVec Ideal S2x128x4x64x128 .f32) : FVec Ideal S2x128x4x64x128 .bf16 := fun i =>
  states A D (i 0).val (i 2).val (i 1).val (i 3) (i 4)

/-- A grid point's chunk is one of the sequence's. -/
theorem chunk_lt {T : ℕ} (hT : T < 16) (n : Fin 8) : 8 * T + n.val < 128 := by omega

/-- On finite arguments every state is finite. -/
theorem fin_states {A D : FVec Ideal S2x128x4x64x128 .f32} (hA : ∀ i, Fin' (A i)) (hD : ∀ i, Fin' (D i)) (b p : ℕ) :
    ∀ n i c, Fin' (states A D b p n i c)
  | 0 => fun _ _ => fin_zero
  | n + 1 => fin_next (fun _ _ => hA _) (fun _ _ => hD _) (fin_states hA hD b p n)

/-- The block of one chunk of one pair, read off a grid point's block of eight chunks. -/
abbrev chunkOf (x : FVec Ideal S2x8x4x64x128 .f32) (b n p : ℕ)
    (inb : ∀ a, (![b, n, p, 0, 0] : Fin 5 → ℕ) a + (![1, 1, 1, 64, 128] : Fin 5 → ℕ) a ≤ S2x8x4x64x128.size a) : Mat :=
  View.ld (Val := Elt Ideal) (S := S2x8x4x64x128) (e' := .f32) x
    (Rect.unit (s := S2x8x4x64x128) (![b, n, p, 0, 0] : Fin 5 → ℕ) (![1, 1, 1, 64, 128] : Fin 5 → ℕ) inb)

/-- One pair's matrix, read off the scratch. -/
abbrev pairOf (x : FVec Ideal S2x4x128x128 .f32) (b p : ℕ)
    (inb : ∀ a, (![b, p, 0, 0] : Fin 4 → ℕ) a + (![1, 1, 128, 128] : Fin 4 → ℕ) a ≤ S2x4x128x128.size a) : FVec Ideal S1x1x128x128 .f32 :=
  View.ld (Val := Elt Ideal) (S := S2x4x128x128) (e' := .f32) x
    (Rect.unit (s := S2x4x128x128) (![b, p, 0, 0] : Fin 4 → ℕ) (![1, 1, 128, 128] : Fin 4 → ℕ) inb)

/-- One chunk of one pair inside a grid point, the chunk read off the point's blocks of the two arguments. -/
theorem tied_chunk {A D : FVec Ideal S2x128x4x64x128 .f32} {x0 x1 : FVec Ideal S2x8x4x64x128 .f32} {T : ℕ} (hT : T < 16)
    (h0 : ∀ b n p i c, x0 (ix5 b n p i c) = A (ix5 b ⟨8 * T + n.val, chunk_lt hT n⟩ p i c))
    (h1 : ∀ b n p i c, x1 (ix5 b n p i c) = D (ix5 b ⟨8 * T + n.val, chunk_lt hT n⟩ p i c))
    (hA : ∀ i, Fin' (A i)) (hD : ∀ i, Fin' (D i)) {b n p : ℕ}
    {inb : ∀ a, (![b, n, p, 0, 0] : Fin 5 → ℕ) a + (![1, 1, 1, 64, 128] : Fin 5 → ℕ) a ≤ S2x8x4x64x128.size a}
    {st : FVec Ideal S128x128 .f32} (h : Tied st (states A D b p (8 * T + n))) :
    Tied (step st (chunkOf x0 b n p inb)
        (chunkOf x1 b n p inb))
      (states A D b p (8 * T + n + 1)) := by
  have hb : b + 1 ≤ 2 := inb 0
  have hn : n + 1 ≤ 8 := inb 1
  have hp : p + 1 ≤ 4 := inb 2
  have e : ∀ (x : FVec Ideal S2x8x4x64x128 .f32) (i : Fin 64) (c : Fin 128),
      chunkOf x b n p inb (ix5 0 0 0 i c)
        = x (ix5 ⟨b, by omega⟩ ⟨n, by omega⟩ ⟨p, by omega⟩ i c) := by
    intro x i c
    refine congrArg x ?_
    funext a; apply Fin.ext; fin_cases a <;> simp [Rect.idx_unit_val]
  have e0 : ∀ i c, chunkOf x0 b n p inb (ix5 0 0 0 i c)
      = A (ix5 ⟨b % 2, by omega⟩ ⟨(8 * T + n) % 128, by omega⟩ ⟨p % 4, by omega⟩ i c) := by
    intro i c
    rw [e, h0]
    congr 2 <;> first | rfl | (apply Fin.ext; simp only []; omega)
  have e1 : ∀ i c, chunkOf x1 b n p inb (ix5 0 0 0 i c)
      = D (ix5 ⟨b % 2, by omega⟩ ⟨(8 * T + n) % 128, by omega⟩ ⟨p % 4, by omega⟩ i c) := by
    intro i c
    rw [e, h1]
    congr 2 <;> first | rfl | (apply Fin.ext; simp only []; omega)
  have k := h.step (a := chunkOf x0 b n p inb)
    (d := chunkOf x1 b n p inb)
    (fun i c => by rw [e0]; exact hA _) (fun i c => by rw [e1]; exact hD _)
  simp only [e0, e1] at k
  exact k

/-- The scratch buffer holds the states before chunk `n`, block-diagonally. -/
def Holds (A D : FVec Ideal S2x128x4x64x128 .f32) (xs : FVec Ideal S2x4x128x128 .f32) (n : ℕ) : Prop :=
  ∀ (b : Fin 2) (p : Fin 4) (i j : Fin 128), xs (ix4 b p i j) = diag (states A D b.val p.val n) i j

/-- A pair's state loaded from a scratch that holds the states. -/
theorem tied_load {A D : FVec Ideal S2x128x4x64x128 .f32} (hA : ∀ i, Fin' (A i)) (hD : ∀ i, Fin' (D i))
    {xs : FVec Ideal S2x4x128x128 .f32} {n : ℕ} (h : Holds A D xs n) {b p : ℕ}
    {inb : ∀ a, (![b, p, 0, 0] : Fin 4 → ℕ) a + (![1, 1, 128, 128] : Fin 4 → ℕ) a ≤ S2x4x128x128.size a} :
    Tied (k0_pay5 (F := Ideal) (pairOf xs b p inb)) (states A D b p n) := by
  have hb : b + 1 ≤ 2 := inb 0
  have hp : p + 1 ≤ 4 := inb 1
  refine ⟨fin_states hA hD b p n, fun i j => ?_⟩
  have e : pairOf xs b p inb (ix4 0 0 i j)
      = xs (ix4 ⟨b, by omega⟩ ⟨p, by omega⟩ i j) := by
    refine congrArg xs ?_
    funext a; apply Fin.ext; fin_cases a <;> simp [Rect.idx_unit_val]
  have k : ∀ v : FVec Ideal S1x1x128x128 .f32, k0_pay5 (F := Ideal) v (ix2 i j) = v (ix4 0 0 i j) := by
    intro v; pointwise [k0_pay5]
  rw [k, e, h]

/-- The zeroed scratch holds the states before the first chunk. -/
theorem holds_zero (A D : FVec Ideal S2x128x4x64x128 .f32) : Holds A D (k0_pay4 (F := Ideal)) 0 := by
  intro b p i j
  have k : k0_pay4 (F := Ideal) (ix4 b p i j) = 0 := by pointwise [k0_pay4]
  rw [k]
  simp [states, diag]

theorem store_apply (st : FVec Ideal S128x128 .f32) (i j : Fin 128) : k0_pay1 (F := Ideal) st (ix4 0 0 i j) = st (ix2 i j) := by
  pointwise [k0_pay1]

theorem store_2 (st : State) : k0_pay2 (F := Ideal) st = k0_pay1 st := rfl
theorem store_3 (st : State) : k0_pay3 (F := Ideal) st = k0_pay1 st := rfl
theorem store_300 (st : State) : k0_pay300 (F := Ideal) st = k0_pay1 st := rfl
theorem store_301 (st : State) : k0_pay301 (F := Ideal) st = k0_pay1 st := rfl
theorem store_302 (st : State) : k0_pay302 (F := Ideal) st = k0_pay1 st := rfl
theorem store_303 (st : State) : k0_pay303 (F := Ideal) st = k0_pay1 st := rfl
theorem store_304 (st : State) : k0_pay304 (F := Ideal) st = k0_pay1 st := rfl

/-- What is stored of a pair's state, where the store lands. -/
theorem piece_scratch {A D : FVec Ideal S2x128x4x64x128 .f32} {st : FVec Ideal S128x128 .f32} {b p n : ℕ}
    (h : Tied st (states A D b p n)) (x : S1x1x128x128.Idx) (y : S2x4x128x128.Idx) (h0 : (y 0).val = b + (x 0).val)
    (h1 : (y 1).val = p + (x 1).val) (h2 : (y 2).val = (x 2).val) (h3 : (y 3).val = (x 3).val) :
    k0_pay1 (F := Ideal) st x = diag (states A D (y 0).val (y 1).val n) (y 2) (y 3) := by
  obtain ⟨i, j, rfl⟩ : ∃ (i j : Fin 128), x = ix4 0 0 i j := ⟨x 2, x 3, by
    rw [eq_ix4 x]; congr 1 <;> exact Subsingleton.elim (α := Fin 1) _ _⟩
  have e2 : y 2 = i := Fin.ext h2
  have e3 : y 3 = j := Fin.ext h3
  have e0 : (y 0).val = b := h0
  have e1 : (y 1).val = p := h1
  rw [store_apply, h.eq, e0, e1, e2, e3]

/-- What is written out of a pair's state, where the write lands. -/
theorem piece_out {A D : FVec Ideal S2x128x4x64x128 .f32} {st : FVec Ideal S128x128 .f32} {b M p N : ℕ}
    (h : Tied st (states A D b p M)) (x : S1x1x1x64x128.Idx) (y : S2x8x4x64x128.Idx) (h0 : (y 0).val = b + (x 0).val)
    (h1 : N + (y 1).val = M + (x 1).val) (h2 : (y 2).val = p + (x 2).val) (h3 : (y 3).val = (x 3).val) (h4 : (y 4).val = (x 4).val) :
    side st x = states A D (y 0).val (y 2).val (N + (y 1).val) (y 3) (y 4) := by
  obtain ⟨i, j, rfl⟩ : ∃ (i : Fin 64) (j : Fin 128), x = ix5 0 0 0 i j := ⟨x 3, x 4, by
    rw [eq_ix5 x]; congr 1 <;> exact Subsingleton.elim (α := Fin 1) _ _⟩
  have e3 : y 3 = i := Fin.ext h3
  have e4 : y 4 = j := Fin.ext h4
  have e0 : (y 0).val = b := h0
  have e1 : N + (y 1).val = M := h1
  have e2 : (y 2).val = p := h2
  rw [h.side, e0, e1, e2, e3, e4]

/-- A last piece that lies under others covering the index is not seen. -/
theorem canon_dropLast {Val : EltTy → Type} {S : Shape} {e : EltTy} [∀ e, Nonempty (Val e)] : ∀ (L : List (View.Piece Val S e)) (y : S.Idx),
    (∃ p ∈ L.dropLast, y ∈ p.1.set) → View.canon L y = View.canon L.dropLast y
  | [], _, _ => rfl
  | [p], _, h => by obtain ⟨_, hp, _⟩ := h; exact absurd hp List.not_mem_nil
  | p :: q :: L, y, h => by
    rw [List.dropLast_cons₂] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast (q :: L) y ?_
      obtain ⟨r, hr, hyr⟩ := h
      rcases List.mem_cons.mp hr with rfl | hr'
      · exact absurd hyr hm
      · exact ⟨r, hr', hyr⟩

end Cert.State

end
-- ==== Proof.StateLater.lean ====
/- A later grid point of the state recurrence: what it leaves in the scratch. -/
module

public import proofs.«01_k».proof.Proof.StateChunk
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.State

open Cert.KernelIdeal Cert.KernelIdeal.Gen

variable (m : (ℓ : Loc nD τ sig) → Buf (Elt Ideal) ℓ)

section Point

variable {A D : FVec Ideal S2x128x4x64x128 .f32} (hA : ∀ i, Fin' (A i)) (hD : ∀ i, Fin' (D i)) (c : Dev nD) (t : Fin cfg0.N) (ht : t.val < 16)
  (b0 : ∀ b n p i j, (iblk m c 0 t : FVec Ideal S2x8x4x64x128 .f32) (ix5 b n p i j)
    = A (ix5 b ⟨8 * t.val + n.val, chunk_lt ht n⟩ p i j))
  (b1 : ∀ b n p i j, (iblk m c 1 t : FVec Ideal S2x8x4x64x128 .f32) (ix5 b n p i j)
    = D (ix5 b ⟨8 * t.val + n.val, chunk_lt ht n⟩ p i j))

include hA hD ht b0 b1

set_option maxHeartbeats 8000000 in
/-- A later grid point, entered with the states before its first chunk, leaves the states before the next point's. -/
theorem scratch_later (h0 : ¬t.val % 16 = 0)
    (hs : Holds A D (outsAt0 m c (t.val - 1) (Nat.lt_of_le_of_lt (Nat.sub_le _ _) t.isLt)).2 (8 * t.val)) :
    Holds A D (outsAt0 m c t.val t.isLt).2 (8 * t.val + 8) := by
  suffices H : ∀ y, (outsAt0 m c t.val t.isLt).2 y = diag (states A D (y 0).val (y 1).val (8 * t.val + 8)) (y 2) (y 3) from
    fun b p i j => H (ix4 b p i j)
  intro y
  rw [outsAt0_B m c t h0]
  dsimp only
  frame_out
  simp only [read_unread_whole]
  simp only [
    load_6, load_7, load_8, load_9, load_10, load_11, load_12, step_299, step_257, step_224, step_191, step_161,
    step_120, step_78, step_45, step_292, step_253, step_223, step_190, step_157, step_113, step_74, step_44,
    step_288, step_251, step_222, step_186, step_151, step_109, step_72, step_43, step_286, step_250, step_218,
    step_184, ↓step_147, step_107, step_71, step_39, step_285, step_245, step_216, step_179, step_145, step_106,
    step_66, step_37, step_279, step_243, step_210, step_176, step_144, step_100, step_64, step_31, step_277,
    step_237, step_207, step_175, step_137, step_98, step_58, step_28, step_271, step_234, step_206, step_172,
    step_135, step_92, step_55, step_27, store_2, store_3, store_300, store_301, store_302, store_303, store_304]
  canon_tiles x h
  all_goals
    apply piece_scratch
    case h =>
      iterate 8 refine tied_chunk ht b0 b1 hA hD ?_
      exact tied_load hA hD hs
    all_goals omega

end Point

end Cert.State

end
-- ==== Proof.StateLaterOut.lean ====
/- A later grid point of the state recurrence: what it writes out. -/
module

public import proofs.«01_k».proof.Proof.StateChunk
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.State

open Cert.KernelIdeal Cert.KernelIdeal.Gen

variable (m : (ℓ : Loc nD τ sig) → Buf (Elt Ideal) ℓ)

section Point

variable {A D : FVec Ideal S2x128x4x64x128 .f32} (hA : ∀ i, Fin' (A i)) (hD : ∀ i, Fin' (D i)) (c : Dev nD) (t : Fin cfg0.N) (ht : t.val < 16)
  (b0 : ∀ b n p i j, (iblk m c 0 t : FVec Ideal S2x8x4x64x128 .f32) (ix5 b n p i j)
    = A (ix5 b ⟨8 * t.val + n.val, chunk_lt ht n⟩ p i j))
  (b1 : ∀ b n p i j, (iblk m c 1 t : FVec Ideal S2x8x4x64x128 .f32) (ix5 b n p i j)
    = D (ix5 b ⟨8 * t.val + n.val, chunk_lt ht n⟩ p i j))

include hA hD ht b0 b1

set_option maxHeartbeats 8000000 in
/-- A later grid point, entered with the states before its first chunk, writes out the states before each of its chunks. -/
theorem out_later (h0 : ¬t.val % 16 = 0)
    (hs : Holds A D (outsAt0 m c (t.val - 1) (Nat.lt_of_le_of_lt (Nat.sub_le _ _) t.isLt)).2 (8 * t.val)) :
    ∀ y : S2x8x4x64x128.Idx, ((outsAt0 m c t.val t.isLt).1 : FVec Ideal S2x8x4x64x128 .bf16) y
      = states A D (y 0).val (y 2).val (8 * t.val + (y 1).val) (y 3) (y 4) := by
  intro y
  rw [outsAt0_B m c t h0]
  dsimp only
  frame_out
  simp only [read_unread_whole]
  simp only [
    load_6, load_7, load_8, load_9, load_10, load_11, load_12, step_299, step_257, step_224, step_191, step_161,
    step_120, step_78, step_45, step_292, step_253, step_223, step_190, step_157, step_113, step_74, step_44,
    step_288, step_251, step_222, step_186, step_151, step_109, step_72, step_43, step_286, step_250, step_218,
    step_184, ↓step_147, step_107, step_71, step_39, step_285, step_245, step_216, step_179, step_145, step_106,
    step_66, step_37, step_279, step_243, step_210, step_176, step_144, step_100, step_64, step_31, step_277,
    step_237, step_207, step_175, step_137, step_98, step_58, step_28, step_271, step_234, step_206, step_172,
    step_135, step_92, step_55, step_27, side_267, side_266, side_265, side_263, side_262, side_261, side_260,
    side_258, side_233, side_232, side_231, side_230, side_228, side_227, side_226, side_225, side_205, side_201,
    side_200, side_199, side_198, side_196, side_195, side_194, side_170, side_169, side_167, side_166, ↓side_165,
    side_164, side_163, side_162, side_129, side_128, side_127, side_126, side_125, side_124, side_122, side_121,
    side_88, side_87, side_86, side_84, side_83, side_82, side_81, side_79, side_54, side_53, side_52, side_51,
    side_49, side_48, side_47, side_46, side_26, side_22, side_21, side_20, side_19, side_17, side_16, side_15]
  canon_tiles x h
  all_goals
    apply piece_out
    case h =>
      repeat refine tied_chunk ht b0 b1 hA hD ?_
      exact tied_load hA hD hs
    all_goals omega

end Point

end Cert.State

end
-- ==== Proof.StateFirst.lean ====
/- The first grid point of the state recurrence: what it leaves in the scratch. -/
module

public import proofs.«01_k».proof.Proof.StateChunk
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.State

open Cert.KernelIdeal Cert.KernelIdeal.Gen

variable (m : (ℓ : Loc nD τ sig) → Buf (Elt Ideal) ℓ)

section Point

variable {A D : FVec Ideal S2x128x4x64x128 .f32} (hA : ∀ i, Fin' (A i)) (hD : ∀ i, Fin' (D i)) (c : Dev nD) (t : Fin cfg0.N) (ht : t.val < 16)
  (b0 : ∀ b n p i j, (iblk m c 0 t : FVec Ideal S2x8x4x64x128 .f32) (ix5 b n p i j)
    = A (ix5 b ⟨8 * t.val + n.val, chunk_lt ht n⟩ p i j))
  (b1 : ∀ b n p i j, (iblk m c 1 t : FVec Ideal S2x8x4x64x128 .f32) (ix5 b n p i j)
    = D (ix5 b ⟨8 * t.val + n.val, chunk_lt ht n⟩ p i j))

include hA hD ht b0 b1

set_option maxHeartbeats 8000000 in
/-- The first grid point, which zeroes the scratch, leaves the states before the second point's first chunk. -/
theorem scratch_first (h0 : t.val % 16 = 0) : Holds A D (outsAt0 m c t.val t.isLt).2 (8 * t.val + 8) := by
  have hz : Holds A D (k0_pay4 (F := Ideal)) (8 * t.val) := by
    rw [show 8 * t.val = 0 by omega]; exact holds_zero A D
  suffices H : ∀ y, (outsAt0 m c t.val t.isLt).2 y = diag (states A D (y 0).val (y 1).val (8 * t.val + 8)) (y 2) (y 3) from
    fun b p i j => H (ix4 b p i j)
  intro y
  generalize hG : diag (states A D (y 0).val (y 1).val (8 * t.val + 8)) (y 2) (y 3) = G
  rw [outsAt0_A m c t h0]
  dsimp only
  frame_open
  simp (disch := decide) only [↓ View.readCov_skip, ↓ View.readCov_cons_toLoadRect, ↓ View.readCov_fill]
  frame_out
  rw [canon_dropLast]
  rotate_left
  · exact View.cover_of_tiled_head _ _ _ (by rfl) y
  simp only [List.dropLast,
    load_6, load_7, load_8, load_9, load_10, load_11, load_12, step_299, step_257, step_224, step_191, step_161,
    step_120, step_78, step_45, step_292, step_253, step_223, step_190, step_157, step_113, step_74, step_44,
    step_288, step_251, step_222, step_186, step_151, step_109, step_72, step_43, step_286, step_250, step_218,
    step_184, ↓step_147, step_107, step_71, step_39, step_285, step_245, step_216, step_179, step_145, step_106,
    step_66, step_37, step_279, step_243, step_210, step_176, step_144, step_100, step_64, step_31, step_277,
    step_237, step_207, step_175, step_137, step_98, step_58, step_28, step_271, step_234, step_206, step_172,
    step_135, step_92, step_55, step_27, store_2, store_3, store_300, store_301, store_302, store_303, store_304]
  subst hG
  canon_tiles x h
  all_goals
    apply piece_scratch
    case h =>
      iterate 8 refine tied_chunk ht b0 b1 hA hD ?_
      exact tied_load hA hD hz
    all_goals omega

end Point

end Cert.State

end
-- ==== Proof.StateFirstOut.lean ====
/- The first grid point of the state recurrence: what it writes out. -/
module

public import proofs.«01_k».proof.Proof.StateChunk
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.State

open Cert.KernelIdeal Cert.KernelIdeal.Gen

variable (m : (ℓ : Loc nD τ sig) → Buf (Elt Ideal) ℓ)

section Point

variable {A D : FVec Ideal S2x128x4x64x128 .f32} (hA : ∀ i, Fin' (A i)) (hD : ∀ i, Fin' (D i)) (c : Dev nD) (t : Fin cfg0.N) (ht : t.val < 16)
  (b0 : ∀ b n p i j, (iblk m c 0 t : FVec Ideal S2x8x4x64x128 .f32) (ix5 b n p i j)
    = A (ix5 b ⟨8 * t.val + n.val, chunk_lt ht n⟩ p i j))
  (b1 : ∀ b n p i j, (iblk m c 1 t : FVec Ideal S2x8x4x64x128 .f32) (ix5 b n p i j)
    = D (ix5 b ⟨8 * t.val + n.val, chunk_lt ht n⟩ p i j))

include hA hD ht b0 b1

set_option maxHeartbeats 8000000 in
/-- The first grid point, which zeroes the scratch, writes out the states before each of its chunks. -/
theorem out_first (h0 : t.val % 16 = 0) :
    ∀ y : S2x8x4x64x128.Idx, ((outsAt0 m c t.val t.isLt).1 : FVec Ideal S2x8x4x64x128 .bf16) y
      = states A D (y 0).val (y 2).val (8 * t.val + (y 1).val) (y 3) (y 4) := by
  have hz : Holds A D (k0_pay4 (F := Ideal)) (8 * t.val) := by
    rw [show 8 * t.val = 0 by omega]; exact holds_zero A D
  intro y
  generalize hG : states A D (y 0).val (y 2).val (8 * t.val + (y 1).val) (y 3) (y 4) = G
  rw [outsAt0_A m c t h0]
  dsimp only
  frame_open
  simp (disch := decide) only [↓ View.readCov_skip, ↓ View.readCov_cons_toLoadRect, ↓ View.readCov_fill]
  frame_out
  simp only [
    load_6, load_7, load_8, load_9, load_10, load_11, load_12, step_299, step_257, step_224, step_191, step_161,
    step_120, step_78, step_45, step_292, step_253, step_223, step_190, step_157, step_113, step_74, step_44,
    step_288, step_251, step_222, step_186, step_151, step_109, step_72, step_43, step_286, step_250, step_218,
    step_184, ↓step_147, step_107, step_71, step_39, step_285, step_245, step_216, step_179, step_145, step_106,
    step_66, step_37, step_279, step_243, step_210, step_176, step_144, step_100, step_64, step_31, step_277,
    step_237, step_207, step_175, step_137, step_98, step_58, step_28, step_271, step_234, step_206, step_172,
    step_135, step_92, step_55, step_27, side_267, side_266, side_265, side_263, side_262, side_261, side_260,
    side_258, side_233, side_232, side_231, side_230, side_228, side_227, side_226, side_225, side_205, side_201,
    side_200, side_199, side_198, side_196, side_195, side_194, side_170, side_169, side_167, side_166, ↓side_165,
    side_164, side_163, side_162, side_129, side_128, side_127, side_126, side_125, side_124, side_122, side_121,
    side_88, side_87, side_86, side_84, side_83, side_82, side_81, side_79, side_54, side_53, side_52, side_51,
    side_49, side_48, side_47, side_46, side_26, side_22, side_21, side_20, side_19, side_17, side_16, side_15]
  subst hG
  canon_tiles x h
  all_goals
    apply piece_out
    case h =>
      repeat refine tied_chunk ht b0 b1 hA hD ?_
      exact tied_load hA hD hz
    all_goals omega

end Point

end Cert.State

end
-- ==== Proof.StateKernel.lean ====
/- The state recurrence as the kernel's whole grid runs it: sixteen points of eight chunks, the states carried between
   points in a scratch buffer, so that the result array is the states before every chunk of the sequence. -/
module

public import proofs.«01_k».proof.Proof.StateLater
public import proofs.«01_k».proof.Proof.StateLaterOut
public import proofs.«01_k».proof.Proof.StateFirst
public import proofs.«01_k».proof.Proof.StateFirstOut

@[expose] public section

set_option maxRecDepth 16384

noncomputable section

open Idealize.ShloMosaic Idealize.ShloMosaic.TcCoe Idealize.SL.Sem
open Idealize.ShloMosaic.Pipeline (Dat)

namespace Cert.State

open Cert.KernelIdeal Cert.KernelIdeal.Gen

variable (m : (ℓ : Loc nD τ sig) → Buf (Elt Ideal) ℓ)

/-- Every window's block at point `t` is the eight chunks from `8 * t` on. -/
theorem idx : ∀ t : Fin cfg0.N, win0_0.index t = ![0, t.val, 0, 0, 0] ∧ win0_1.index t = ![0, t.val, 0, 0, 0]
    ∧ win0_2.index t = ![0, t.val, 0, 0, 0] :=
  (by decide +kernel : ∀ t : Fin grid0.N, win0_0.index t = ![0, t.val, 0, 0, 0] ∧ win0_1.index t = ![0, t.val, 0, 0, 0]
    ∧ win0_2.index t = ![0, t.val, 0, 0, 0])

theorem point_lt (t : Fin cfg0.N) : t.val < 16 := by
  have : t.val < 16 := N_0 ▸ t.isLt
  exact this

/-- A grid point's block of the decays. -/
theorem block_0 (c : Dev nD) (t : Fin cfg0.N) (b : Fin 2) (n : Fin 8) (p : Fin 4) (i : Fin 64) (j : Fin 128) :
    (iblk m c 0 t : FVec Ideal S2x8x4x64x128 .f32) (ix5 b n p i j)
      = (m ((c : Thread nD τ).loc main_arg0) : FVec Ideal S2x128x4x64x128 .f32)
          (ix5 b ⟨8 * t.val + n.val, chunk_lt (point_lt t) n⟩ p i j) := by
  have ht := point_lt t
  blk_point [iblk, V, idx t]

/-- A grid point's block of the increments. -/
theorem block_1 (c : Dev nD) (t : Fin cfg0.N) (b : Fin 2) (n : Fin 8) (p : Fin 4) (i : Fin 64) (j : Fin 128) :
    (iblk m c 1 t : FVec Ideal S2x8x4x64x128 .f32) (ix5 b n p i j)
      = (m ((c : Thread nD τ).loc main_arg1) : FVec Ideal S2x128x4x64x128 .f32)
          (ix5 b ⟨8 * t.val + n.val, chunk_lt (point_lt t) n⟩ p i j) := by
  have ht := point_lt t
  blk_point [iblk, V, idx t]

section Run

variable (c : Dev nD) (hA : ∀ i, Fin' ((m ((c : Thread nD τ).loc main_arg0) : FVec Ideal S2x128x4x64x128 .f32) i))
  (hD : ∀ i, Fin' ((m ((c : Thread nD τ).loc main_arg1) : FVec Ideal S2x128x4x64x128 .f32) i))

include hA hD

/-- Every grid point leaves in the scratch the states before the next point's first chunk. -/
theorem scratch_holds : ∀ (t : ℕ) (ht : t < cfg0.N),
    Holds (m ((c : Thread nD τ).loc main_arg0)) (m ((c : Thread nD τ).loc main_arg1)) (outsAt0 m c t ht).2 (8 * t + 8)
  | 0, ht => scratch_first m hA hD c ⟨0, ht⟩ (point_lt _) (block_0 m c _) (block_1 m c _) rfl
  | t + 1, ht => scratch_later m hA hD c ⟨t + 1, ht⟩ (point_lt _) (block_0 m c _) (block_1 m c _)
      (by have := point_lt ⟨t + 1, ht⟩; simp only [] at this ⊢; omega)
      (scratch_holds t (by omega))

/-- Every grid point writes out the states before each of its chunks. -/
theorem out_states (t : Fin cfg0.N) (y : S2x8x4x64x128.Idx) :
    ((outsAt0 m c t.val t.isLt).1 : FVec Ideal S2x8x4x64x128 .bf16) y
      = states (m ((c : Thread nD τ).loc main_arg0)) (m ((c : Thread nD τ).loc main_arg1)) (y 0).val (y 2).val
          (8 * t.val + (y 1).val) (y 3) (y 4) := by
  obtain ⟨t, ht⟩ := t
  cases t with
  | zero => exact out_first m hA hD c ⟨0, ht⟩ (point_lt _) (block_0 m c _) (block_1 m c _) rfl y
  | succ t =>
    exact out_later m hA hD c ⟨t + 1, ht⟩ (point_lt _) (block_0 m c _) (block_1 m c _)
      (by have := point_lt ⟨t + 1, ht⟩; simp only [] at this ⊢; omega) (scratch_holds m c hA hD t (by omega)) y

/-- The kernel's result array after the run: at chunk `n` the states before that chunk. -/
theorem final : (dats m 0 c).arrAt 2 cfg0.N
    = allStates (m ((c : Thread nD τ).loc main_arg0)) (m ((c : Thread nD τ).loc main_arg1)) := by
  refine (dats m 0 c).arrAt_eq_of_covers 2 _ (by decide +kernel) fun t _ y => ?_
  blk_simp
  rw [after0_2]
  obtain ⟨b, n, p, i, j, rfl⟩ : ∃ (b : Fin 2) (n : Fin 8) (p : Fin 4) (i : Fin 64) (j : Fin 128), y = ix5 b n p i j :=
    ⟨y 0, y 1, y 2, y 3, y 4, eq_ix5 y⟩
  have ht := point_lt t
  have hw : ((cfg0.win 2).blk t).view.emb (ix5 b n p i j) = ix5 b (⟨8 * t.val + n.val, by omega⟩ : Fin 128) p i j := by
    blk_ext [iblk, V, idx t]
  rw [hw]
  exact out_states m c hA hD t (ix5 b n p i j)

end Run

end Cert.State

end
-- ==== Proof.StateRef.lean ====
/- The reference of the state recurrence: a loop of 128 trips over the chunks, head by head, whose carried state is the
   kernel's `states` and whose result collects the state before every chunk. -/
module

public import proofs.«01_k».proof.Proof.StateChunk
public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem

namespace Cert.StateRef

open Cert.ReferenceIdeal Cert.ReferenceIdeal.Gen Cert.ReferenceIdeal.Value
open Cert.State (states allStates next)
open Idealize.ShloMosaic.StableHlo

/-- The starts of a slice at chunk `n`, read off the loop's counter. -/
theorem starts {ctr : IVec S_ 32} {n : ℕ} (hn : n < 128) (h : ctr = fun _ => BitVec.ofNat 32 n) :
    (fun k => (((![ctr, constantI S_ 32 0#32, constantI S_ 32 0#32, constantI S_ 32 0#32, constantI S_ 32 0#32] :
      Fin 5 → IVec S_ 32)) k (Shape.Idx.first h_S_)).toInt) = (![(n : ℤ), 0, 0, 0, 0] : Fin 5 → ℤ) := by
  subst h
  funext k
  have e : (BitVec.ofNat 32 n).toInt = n := by
    rw [BitVec.toInt_eq_toNat_of_lt] <;> simp only [BitVec.toNat_ofNat] <;> omega
  fin_cases k
  · exact e
  all_goals rfl

/-- The chunk `n` lies inside the 128. -/
theorem inside {n : ℕ} (hn : n < 128) : S128x2x8x64x64.Slices (![n, 0, 0, 0, 0] : Fin 5 → ℕ) S1x2x8x64x64 :=
  ⟨rfl, fun a => by fin_cases a <;> simp <;> omega⟩

/-- One chunk of an array laid out chunk by chunk. -/
theorem slice_apply (x : FVec Ideal S128x2x8x64x64 .f32) {n : ℕ} (hn : n < 128) (b : Fin 2) (g : Fin 8) (i j : Fin 64) :
    shapeCast S2x8x64x64 (Host.dynamicSlice S1x2x8x64x64 x (![(n : ℤ), 0, 0, 0, 0] : Fin 5 → ℤ)
      sliceFits_S128x2x8x64x64_S1x2x8x64x64) shapeCasts_S1x2x8x64x64_S2x8x64x64 (ix4 b g i j) = x (ix5 ⟨n, hn⟩ b g i j) := by
  rw [Host.dynamicSlice_eq_extractStridedSlice S1x2x8x64x64 x _ (![n, 0, 0, 0, 0] : Fin 5 → ℕ) _ (inside hn)
    (fun a => by fin_cases a <;> rfl)]
  pointwise

/-- One chunk of an array laid out chunk by chunk, replaced. -/
theorem update_apply (x : FVec Ideal S128x2x8x64x64 .f32) (s : FVec Ideal S2x8x64x64 .f32) {n : ℕ} (hn : n < 128) (q : Fin 128)
    (b : Fin 2) (g : Fin 8) (i j : Fin 64) :
    Host.dynamicUpdateSlice x (broadcastInDim S1x2x8x64x64 ![1, 2, 3, 4] bcast_S2x8x64x64_S1x2x8x64x64_1_2_3_4 s)
        (![(n : ℤ), 0, 0, 0, 0] : Fin 5 → ℤ) updateFits_S128x2x8x64x64_S1x2x8x64x64 (ix5 q b g i j)
      = if q.val = n then s (ix4 b g i j) else x (ix5 q b g i j) := by
  rw [Host.dynamicUpdateSlice_eq_updateSlice x _ _ _ (![n, 0, 0, 0, 0] : Fin 5 → ℕ)
    (fun a => by have := (inside hn).2 a; fin_cases a <;> simp <;> omega) (inside hn)]
  split
  · rename_i h
    subst h
    pointwise
    rw [dif_pos ⟨le_rfl, Nat.lt_succ_self _⟩]
  · rename_i h
    pointwise
    rw [dif_neg (fun k => h (by omega))]

/-- One chunk of an array laid out chunk by chunk, at the loop's counter. -/
theorem slice_at (x : FVec Ideal S128x2x8x64x64 .f32) {ctr : IVec S_ 32} {n : ℕ} (hn : n < 128)
    (h : ctr = fun _ => BitVec.ofNat 32 n) (b : Fin 2) (g : Fin 8) (i j : Fin 64) :
    shapeCast S2x8x64x64 (Host.dynamicSlice S1x2x8x64x64 x (fun k => (((![ctr, constantI S_ 32 0#32, constantI S_ 32 0#32,
        constantI S_ 32 0#32, constantI S_ 32 0#32] : Fin 5 → IVec S_ 32)) k (Shape.Idx.first h_S_)).toInt)
      sliceFits_S128x2x8x64x64_S1x2x8x64x64) shapeCasts_S1x2x8x64x64_S2x8x64x64 (ix4 b g i j) = x (ix5 ⟨n, hn⟩ b g i j) := by
  rw [starts hn h]
  exact slice_apply x hn b g i j

/-- One chunk of an array laid out chunk by chunk, replaced at the loop's counter. -/
theorem update_at (x : FVec Ideal S128x2x8x64x64 .f32) (s : FVec Ideal S2x8x64x64 .f32) {ctr : IVec S_ 32} {n : ℕ} (hn : n < 128)
    (h : ctr = fun _ => BitVec.ofNat 32 n) (q : Fin 128) (b : Fin 2) (g : Fin 8) (i j : Fin 64) :
    Host.dynamicUpdateSlice x (broadcastInDim S1x2x8x64x64 ![1, 2, 3, 4] bcast_S2x8x64x64_S1x2x8x64x64_1_2_3_4 s)
        (fun k => (((![ctr, constantI S_ 32 0#32, constantI S_ 32 0#32, constantI S_ 32 0#32, constantI S_ 32 0#32] :
          Fin 5 → IVec S_ 32)) k (Shape.Idx.first h_S_)).toInt) updateFits_S128x2x8x64x64_S1x2x8x64x64 (ix5 q b g i j)
      = if q.val = n then s (ix4 b g i j) else x (ix5 q b g i j) := by
  rw [starts hn h]
  exact update_apply x s hn q b g i j

/-- The arguments head by head: chunk, batch row, head `2 * pair + half`, row, column. -/
theorem heads_apply (x : FVec Ideal S2x128x4x64x128 .f32) (n : Fin 128) (b : Fin 2) (g : Fin 8) (i j : Fin 64) :
    shapeCast S128x2x8x64x64 (transpose S128x2x4x2x64x64 [1, 0, 2, 4, 3, 5] (shapeCast S2x128x4x64x2x64 x
      shapeCasts_S2x128x4x64x128_S2x128x4x64x2x64) transposes_S2x128x4x64x2x64_S128x2x4x2x64x64_1_0_2_4_3_5)
      shapeCasts_S128x2x4x2x64x64_S128x2x8x64x64 (ix5 n b g i j)
      = x (ix5 b n ⟨g.val / 2, by omega⟩ i ⟨g.val % 2 * 64 + j.val, by omega⟩) := by
  pointwise

/-- Back from heads to pairs. -/
theorem pairs_apply (x : FVec Ideal S128x2x8x64x64 .f32) (b : Fin 2) (n : Fin 128) (p : Fin 4) (i : Fin 64) (c : Fin 128) :
    truncf .bf16 (shapeCast S2x128x4x64x128 (transpose S2x128x4x64x2x64 [1, 0, 2, 4, 3, 5] (shapeCast S128x2x4x2x64x64 x
      shapeCasts_S128x2x8x64x64_S128x2x4x2x64x64) transposes_S128x2x4x2x64x64_S2x128x4x64x2x64_1_0_2_4_3_5)
      shapeCasts_S2x128x4x64x2x64_S2x128x4x64x128) bitsLt_bf16_f32 (ix5 b n p i c)
      = x (ix5 n b ⟨p.val * 2 + c.val / 64, by omega⟩ i ⟨c.val % 64, by omega⟩) := by
  pointwise

/-- One trip's product and sum, head by head. -/
theorem trip_apply (a d s : FVec Ideal S2x8x64x64 .f32) (b : Fin 2) (g : Fin 8) (i j : Fin 64) :
    addf (Host.dotGeneral dot_S2x8x64x64_S2x8x64x64_S2x8x64x64_3_2_2_3_01_01 none a s) d (ix4 b g i j)
      = (∑ k : Fin 64, a (ix4 b g i k) * s (ix4 b g k j)) + d (ix4 b g i j) := by
  pointwise

variable (m : (ℓ : Loc nD τ sig) → Buf (Elt Ideal) ℓ) (c : Dev nD)

/-- The two arguments. -/
abbrev argA : FVec Ideal S2x128x4x64x128 .f32 := m ((c.tc : Thread nD τ).loc main_arg0)
abbrev argD : FVec Ideal S2x128x4x64x128 .f32 := m ((c.tc : Thread nD τ).loc main_arg1)

/-- At the loop's entry the transitions lie head by head. -/
theorem entry_0 : entryContents preI m c (Proc.devRef .tc main_v8_0) = (shapeCast S128x2x8x64x64 (transpose S128x2x4x2x64x64 [1, 0, 2, 4, 3, 5]
      (shapeCast S2x128x4x64x2x64 (argA m c)
      shapeCasts_S2x128x4x64x128_S2x128x4x64x2x64) transposes_S2x128x4x64x2x64_S128x2x4x2x64x64_1_0_2_4_3_5)
      shapeCasts_S128x2x4x2x64x64_S128x2x8x64x64 : FVec Ideal S128x2x8x64x64 .f32) := by
  simp only [entryContents, afterL_cons, afterL_nil]
  after_reads_simp
  rfl

/-- At the loop's entry the increments lie head by head. -/
theorem entry_1 : entryContents preI m c (Proc.devRef .tc main_v8_1) = (shapeCast S128x2x8x64x64 (transpose S128x2x4x2x64x64 [1, 0, 2, 4, 3, 5]
      (shapeCast S2x128x4x64x2x64 (argD m c)
      shapeCasts_S2x128x4x64x128_S2x128x4x64x2x64) transposes_S2x128x4x64x2x64_S128x2x4x2x64x64_1_0_2_4_3_5)
      shapeCasts_S128x2x4x2x64x64_S128x2x8x64x64 : FVec Ideal S128x2x8x64x64 .f32) := by
  simp only [entryContents, afterL_cons, afterL_nil]
  after_reads_simp
  rfl

/-- At the loop's entry the state is zero. -/
theorem entry_3 (b : Fin 2) (g : Fin 8) (i j : Fin 64) :
    @Eq EReal ((entryContents preI m c (Proc.devRef .tc main_v8_3) : FVec Ideal S2x8x64x64 .f32) (ix4 b g i j)) 0 := by
  have e : entryContents preI m c (Proc.devRef .tc main_v8_3)
      = (broadcastInDim S2x8x64x64 ![] bcast_S_S2x8x64x64 (constant S_ .f32 0x00000000#32) : FVec Ideal S2x8x64x64 .f32) := by
    simp only [entryContents, afterL_cons, afterL_nil]
    after_reads_simp
    rfl
  rw [e]
  pointwise

/-- What the loop carries before trip `k`: the counter, the arguments head by head, the state before chunk `k`, and the
    states before the chunks already passed. -/
structure Inv (k : ℕ) (V : Valuation τ sig (Elt Ideal)) : Prop where
  counter : V (Proc.devRef .tc main_v8_2) = fun _ => BitVec.ofNat 32 k
  decays : ∀ (n : Fin 128) (b : Fin 2) (g : Fin 8) (i j : Fin 64), (V (Proc.devRef .tc main_v8_0) : FVec Ideal S128x2x8x64x64 .f32) (ix5 n b g i j)
    = argA m c (ix5 b n ⟨g.val / 2, by omega⟩ i ⟨g.val % 2 * 64 + j.val, by omega⟩)
  increments : ∀ (n : Fin 128) (b : Fin 2) (g : Fin 8) (i j : Fin 64), (V (Proc.devRef .tc main_v8_1) : FVec Ideal S128x2x8x64x64 .f32) (ix5 n b g i j)
    = argD m c (ix5 b n ⟨g.val / 2, by omega⟩ i ⟨g.val % 2 * 64 + j.val, by omega⟩)
  state : ∀ (b : Fin 2) (g : Fin 8) (i j : Fin 64), (V (Proc.devRef .tc main_v8_3) : FVec Ideal S2x8x64x64 .f32) (ix4 b g i j)
    = states (argA m c) (argD m c) b.val (g.val / 2) k i ⟨g.val % 2 * 64 + j.val, by omega⟩
  passed : ∀ (n : Fin 128) (b : Fin 2) (g : Fin 8) (i j : Fin 64), n.val < k →
    (V (Proc.devRef .tc main_v8_4) : FVec Ideal S128x2x8x64x64 .f32) (ix5 n b g i j)
    = states (argA m c) (argD m c) b.val (g.val / 2) n.val i ⟨g.val % 2 * 64 + j.val, by omega⟩

/-- The invariant holds at the loop's entry. -/
theorem inv_entry : Inv m c 0 (entryContents preI m c) where
  counter := ctr_entry m c
  decays n b g i j := by rw [entry_0]; exact heads_apply _ n b g i j
  increments n b g i j := by rw [entry_1]; exact heads_apply _ n b g i j
  state b g i j := entry_3 m c b g i j
  passed n b g i j h := absurd h (Nat.not_lt_zero _)

/-- One trip keeps the invariant. -/
theorem inv_step {k : ℕ} (hk : k < 128) {V : Valuation τ sig (Elt Ideal)} (h : Inv m c k V) : Inv m c (k + 1) (STEP V) where
  counter := by
    rw [STEP_main_v8_2]
    unfold step_main_v8_2
    rw [h.counter]
    funext x
    show BitVec.ofNat 32 k + 1#32 = BitVec.ofNat 32 (k + 1)
    rw [BitVec.ofNat_add]
  decays n b g i j := by rw [STEP_main_v8_0]; exact h.decays n b g i j
  increments n b g i j := by rw [STEP_main_v8_1]; exact h.increments n b g i j
  state b g i j := by
    rw [STEP_main_v8_3]
    unfold step_main_v8_3
    refine (trip_apply _ _ _ b g i j).trans ?_
    refine (congrArg₂ (· + ·) (Finset.sum_congr rfl fun q _ => congrArg₂ (· * ·)
      ((slice_at _ hk h.counter b g i q).trans (h.decays _ b g i q)) (h.state b g q j))
      ((slice_at _ hk h.counter b g i j).trans (h.increments _ b g i j))).trans ?_
    show _ = next _ _ _ i _
    unfold next
    have eb : (⟨b.val % 2, by omega⟩ : Fin 2) = b := Fin.ext (by simp only []; omega)
    have en : (⟨k % 128, by omega⟩ : Fin 128) = ⟨k, hk⟩ := Fin.ext (by simp only []; omega)
    have eg : (⟨g.val / 2 % 4, by omega⟩ : Fin 4) = ⟨g.val / 2, by omega⟩ := Fin.ext (by simp only []; omega)
    have eq : ∀ q : Fin 64, (⟨(g.val % 2 * 64 + j.val) / 64 * 64 + q.val, by omega⟩ : Fin 128) = ⟨g.val % 2 * 64 + q.val, by omega⟩ :=
      fun q => Fin.ext (by simp only []; omega)
    simp only [eb, en, eg, eq]
  passed n b g i j hn := by
    rw [STEP_main_v8_4]
    unfold step_main_v8_4
    refine (update_at _ _ hk h.counter n b g i j).trans ?_
    split
    · rename_i e
      rw [e]
      exact h.state b g i j
    · exact h.passed n b g i j (by omega)

/-- Before every trip the invariant holds. -/
theorem inv : ∀ k ≤ 128, Inv m c k (STEP^[k] (entryContents preI m c))
  | 0, _ => inv_entry m c
  | k + 1, hk => by
    rw [Function.iterate_succ_apply']
    exact inv_step m c (by omega) (inv k (by omega))

/-- The reference's result: the states before every chunk. -/
theorem final : (out_main_v12 (STEP^[128] (entryContents preI m c)) : FVec Ideal S2x128x4x64x128 .bf16)
    = allStates (argA m c) (argD m c) := by
  funext y
  obtain ⟨b, n, p, i, j, rfl⟩ : ∃ (b : Fin 2) (n : Fin 128) (p : Fin 4) (i : Fin 64) (j : Fin 128), y = ix5 b n p i j :=
    ⟨y 0, y 1, y 2, y 3, y 4, eq_ix5 y⟩
  unfold out_main_v12
  refine (pairs_apply _ b n p i j).trans ?_
  refine ((inv m c 128 le_rfl).passed n b _ i _ n.isLt).trans ?_
  show states (argA m c) (argD m c) b.val _ n.val i _ = states (argA m c) (argD m c) b.val p.val n.val i j
  congr 1
  · simp only []; omega
  · apply Fin.ext; simp only []; omega

end Cert.StateRef

end
-- ==== Proof.StateClaims.lean ====
/- The state recurrence's claims: the frames of the kernel as compiled, of its ideal form and of the reference, and,
   on finite arguments, the equality of the two result arrays. -/
module

public import proofs.«01_k».proof.Defs
public import proofs.«01_k».proof.Proof.StateKernel
public import proofs.«01_k».proof.Proof.StateRef
public import proofs.«01_k».proof.Proof.Gen.Pre_finite
public import proofs.«01_k».proof.Proof.Gen.Kernel
public import proofs.«01_k».proof.Proof.Gen.Kernel.Frame
public import Idealize.ShloMosaic.Lib.ReduceAll
public import Idealize.ShloMosaic.Lib.Quiescent

@[expose] public section

set_option maxRecDepth 16384

noncomputable section

namespace Cert.State

open Idealize.ShloMosaic Idealize.ShloMosaic.TcCoe Idealize.SL.Sem

/-- The kernel as compiled terminates, leaves its arguments as they were and every semaphore at zero. -/
theorem frame_kernel : Cert.quiescent_Kernel := fun m ρ _ => Cert.Kernel.Gen.frame m ρ

/-- The kernel's ideal form terminates, leaves its arguments as they were and every semaphore at zero. -/
theorem frame_ideal : Cert.quiescent_KernelIdeal := fun m ρ _ => Cert.KernelIdeal.Gen.frame m ρ

/-- The same on finite arguments. -/
theorem frame_ideal_finite : Cert.quiescent_KernelIdeal_pre_finite := fun m ρ _ => Cert.KernelIdeal.Gen.frame m ρ

/-- The reference terminates and leaves its arguments as they were; it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on finite arguments. -/
theorem frame_ref_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The compiled kernel and its ideal form are one program. -/
theorem preserved : Cert.preserves_Kernel_KernelIdeal := trivial

/-- An absolute value below infinity is a finite number's. -/
theorem fin_of_abs {x : FVec Ideal Cert.Pre_finite.S2x128x4x64x128 .f32} {i : Cert.Pre_finite.S2x128x4x64x128.Idx}
    (h : cmpf .olt (Host.absf x) (broadcastInDim Cert.Pre_finite.S2x128x4x64x128 ![] Cert.Pre_finite.Facts.bcast_S_S2x128x4x64x128
      (constant Cert.Pre_finite.S_ .f32 0x7F800000#32)) i = 1#1) : Fin' (x i) := by
  pointwise at h
  have top : Ideal.ofBits .f32 0x7F800000#32 = ⊤ := by simp [Ideal.ofBits, Ideal.ieee]
  have lt : max (x i : EReal) (-(x i : EReal)) < ⊤ := by
    rw [← top]
    by_contra k
    have : decide (max (x i : EReal) (-(x i : EReal)) < Ideal.ofBits .f32 0x7F800000#32) = false := decide_eq_false k
    change BitVec.ofBool (decide (max (x i : EReal) (-(x i : EReal)) < Ideal.ofBits .f32 0x7F800000#32)) = 1#1 at h
    rw [this] at h
    exact absurd h (by decide)
  refine ⟨fun k => ?_, fun k => ?_⟩
  · rw [k] at lt; simp at lt
  · rw [k] at lt; simp at lt

/-- The precondition, element by element. -/
theorem fin_of_pre {a d : FVec Ideal Cert.Pre_finite.S2x128x4x64x128 .f32} (h : Cert.Pre_finite.fn (F := Ideal) a d = fun _ => 1#1) :
    (∀ i, Fin' (a i)) ∧ ∀ i, Fin' (d i) := by
  have e := congrFun h (Shape.Idx.first Cert.Pre_finite.Facts.h_S_)
  unfold Cert.Pre_finite.fn at e
  dsimp only at e
  obtain ⟨e1, e2⟩ := (IntOp.andi_eq_one).mp e
  exact ⟨fun i => fin_of_abs (Host.reduce_andi_all _ _ _ _ _ e1 i), fun i => fin_of_abs (Host.reduce_andi_all _ _ _ _ _ e2 i)⟩

/-- On equal and finite arguments the ideal kernel and the reference end with equal result arrays. -/
theorem algebraic : Cert.algebraic_KernelIdeal_ReferenceIdeal_pre_finite := by
  intro m ρ m' ρ' hpre hagree
  refine ⟨fun c => (Cert.KernelIdeal.Gen.dats m 0 c).arrAt 2 Cert.KernelIdeal.cfg0.N, ?_, ?_⟩
  · exact Cert.KernelIdeal.Value.run_blocks (F := Ideal) m ρ
  refine (θ_run Cert.ReferenceIdeal.defs _ _).mono (fun _ h c => ⟨(h c).1.trans ?_, (h c).2⟩)
    (Cert.ReferenceIdeal.Value.run (F := Ideal) m' ρ')
  obtain ⟨hA, hD⟩ := fin_of_pre (hpre c)
  obtain ⟨a0, a1⟩ := hagree c
  refine Eq.trans (Cert.StateRef.final m' c) (Eq.trans ?_ (final m c hA hD).symm)
  exact congrArg₂ allStates a0 a1

end Cert.State

end
-- ==== Proof.Rows.lean ====
module

public import Idealize.ShloMosaic.Lib.Pointwise

@[expose] public section

noncomputable section

open Idealize.ShloMosaic

namespace Cert.Rows

/-- One row of 1024 numbers under the RMS norm with gain `g`: each number divided by the root of the row's mean
    square plus `1e-6`, times its gain. -/
def rms (x g : Fin 1024 → EReal) (k : Fin 1024) : EReal :=
  x k * Ideal.rsqrt (Ideal.div (∑ q : Fin 1024, x q * x q) (Ideal.ofBits FTy.f32 1149239296#32)
    + Ideal.ofBits FTy.f32 897988541#32) * g k

/-- `silu`: a number times its logistic. -/
def silu (a : EReal) : EReal := a * Ideal.div 1 (1 + Ideal.exp (-a))

/-- One row of the stream through the gated feed-forward layer, its residual added. -/
def ffn (x g : Fin 1024 → EReal) (wg wu : Fin 1024 → Fin 2816 → EReal) (wd : Fin 2816 → Fin 1024 → EReal)
    (k : Fin 1024) : EReal :=
  x k + ∑ j : Fin 2816, silu (∑ q, rms x g q * wg q j) * (∑ q, rms x g q * wu q j) * wd j k

end Cert.Rows

end
-- ==== Proof.Ffn.lean ====
module

public import proofs.«01_k».proof.Proof.Gen.Kernel2Ideal.Value
public import proofs.«01_k».proof.Proof.Gen.Reference2Ideal.Read
public import proofs.«01_k».proof.Proof.Rows
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

variable (m : (ℓ : Loc nD τ sig) → Buf (Elt Ideal) ℓ)

/-- Row `r` of the stream block after the feed-forward layer, before the last norm: the layer of row `r`. -/
theorem mid_apply (x : FVec Ideal S512x1024 .f32) (g : FVec Ideal S1x1024 .f32) (wg wu : FVec Ideal S1024x2816 .bf16)
    (wd : FVec Ideal S2816x1024 .bf16) (r : Fin 512) (k : Fin 1024) :
    k0_pay2 (F := Ideal) x g wg wu wd (ix2 r k)
      = Rows.ffn (fun q => x (ix2 r q)) (fun q => g (ix2 0 q)) (fun q j => wg (ix2 q j)) (fun q j => wu (ix2 q j))
          (fun j q => wd (ix2 j q)) k := by
  pointwise [k0_pay2]
  rfl

/-- Row `r` of what a grid point stores: the layer of row `r`, then the last norm. -/
theorem stored_apply (x : FVec Ideal S512x1024 .f32) (g : FVec Ideal S1x1024 .f32) (wg wu : FVec Ideal S1024x2816 .bf16)
    (wd : FVec Ideal S2816x1024 .bf16) (gf : FVec Ideal S1x1024 .f32) (r : Fin 512) (k : Fin 1024) :
    k0_pay1 (F := Ideal) (k0_pay2 x g wg wu wd) (k0_pay3 gf) (k0_pay4 x g wg wu wd) (Scalar.ofBits .f32 0x358637BD#32)
        (ix2 r k)
      = Rows.rms (Rows.ffn (fun q => x (ix2 r q)) (fun q => g (ix2 0 q)) (fun q j => wg (ix2 q j))
          (fun q j => wu (ix2 q j)) (fun j q => wd (ix2 j q))) (fun q => gf (ix2 0 q)) k := by
  unfold k0_pay4
  have h := fun q => mid_apply x g wg wu wd r q
  generalize k0_pay2 (F := Ideal) x g wg wu wd = M at h
  pointwise [k0_pay1, k0_pay3]
  simp only [h]
  rfl

open Cert.Reference2Ideal.Read in
/-- The reference's stream after the feed-forward layer, before the last norm, row by row. -/
theorem ref_mid_apply (x : FVec Ideal Cert.Reference2Ideal.S2x8192x1024 .f32) (g : FVec Ideal Cert.Reference2Ideal.S1024 .f32)
    (wg wu : FVec Ideal Cert.Reference2Ideal.S1024x2816 .f32) (wd : FVec Ideal Cert.Reference2Ideal.S2816x1024 .f32)
    (b : Fin 2) (s : Fin 8192) (k : Fin 1024) :
    val_main_v18 (F := Ideal) x g wg wu wd (ix3 b s k)
      = Rows.ffn (fun q => x (ix3 b s q)) (fun q => g (ix1 q)) (fun q j => wg (ix2 q j)) (fun q j => wu (ix2 q j))
          (fun j q => wd (ix2 j q)) k := by
  pointwise [val_main_v18, val_main_v17, val_main_v16, val_main_v15, val_main_v14, val_main_v13, val_main_v12,
    val_main_v11, val_main_v10, val_main_v9, val_main_v8, val_main_v7, val_main_v6, val_main_v5, val_main_v4,
    val_main_v3, val_main_v2, val_main_v1, val_main_v0, val_main_cst, val_main_cst_0, val_main_cst_1,
    val_main_call0_v0, val_main_call0_v1, val_main_call0_v2, val_main_call0_v3, val_main_call0_v4, val_main_call0_v5,
    val_main_call0_cst, val_main_call0_cst_0]
  rfl

open Cert.Reference2Ideal.Read in
/-- The reference's result, row by row: the layer of the row, then the last norm. -/
theorem ref_apply (x : FVec Ideal Cert.Reference2Ideal.S2x8192x1024 .f32) (g : FVec Ideal Cert.Reference2Ideal.S1024 .f32)
    (wg wu : FVec Ideal Cert.Reference2Ideal.S1024x2816 .f32) (wd : FVec Ideal Cert.Reference2Ideal.S2816x1024 .f32)
    (gf : FVec Ideal Cert.Reference2Ideal.S1024 .f32) (n : Fin 16384) (k : Fin 1024) :
    val_main_v32 (F := Ideal) x g wg wu wd gf (ix2 n k)
      = Rows.rms (Rows.ffn (fun q => x (ix3 ⟨n.val / 8192, by omega⟩ ⟨n.val % 8192, by omega⟩ q)) (fun q => g (ix1 q))
          (fun q j => wg (ix2 q j)) (fun q j => wu (ix2 q j)) (fun j q => wd (ix2 j q))) (fun q => gf (ix1 q)) k := by
  have h := fun b s q => ref_mid_apply x g wg wu wd b s q
  unfold val_main_v32 val_main_v31 val_main_v28 val_main_v27 val_main_v26 val_main_v25 val_main_v23 val_main_v21
    val_main_v20 val_main_v19
  generalize val_main_v18 (F := Ideal) x g wg wu wd = M at h
  pointwise [val_main_v30, val_main_v29, val_main_v24, val_main_v22, val_main_cst_2, val_main_cst_3, val_main_cst_4]
  simp only [h]
  rfl

/-- Every window's block index at point `t`: the stream's blocks follow `t`, the weights' block is the whole array. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0])

/-- The kernel's result array after the run is the reference's term over the kernel's own arguments. -/
theorem final (c : Dev nD) : (dats m 0 c).arrAt 6 cfg0.N
    = Cert.Reference2Ideal.Read.val_main_v32 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (dats m 0 c).arrAt_eq_of_covers 6 _ (by decide +kernel) fun t _ y => ?_
  blk_simp
  rw [after0_6]; frame_out
  obtain ⟨r, k, rfl⟩ : ∃ (r : Fin 512) (k : Fin 1024), y = ix2 r k := ⟨y 0, y 1, eq_ix2 y⟩
  have ht : t.val < 32 := N_0 ▸ t.isLt
  have hw : ((cfg0.win 6).blk t).view.emb (ix2 r k) = ix2 (⟨t.val * 512 + r.val, by omega⟩ : Fin 16384) k := by
    blk_ext [iblk, V, idx t]
  rw [hw]
  refine (stored_apply _ _ _ _ _ _ r k).trans (Eq.trans ?_ (ref_apply _ _ _ _ _ _ _ k).symm)
  have h0 : (fun q => (iblk m c 0 t : FVec Ideal S512x1024 .f32) (ix2 r q))
      = fun q => m ((c : Thread nD τ).loc main_arg0) (ix3 ⟨(t.val * 512 + r.val) / 8192, by omega⟩ ⟨(t.val * 512 + r.val) % 8192, by omega⟩ q) := by
    funext q; blk_point [iblk, V, idx t]
  have h1 : (fun q => (iblk m c 1 t : FVec Ideal S1x1024 .f32) (ix2 0 q)) = fun q => m ((c : Thread nD τ).loc main_arg1) (ix1 q) := by
    funext q; blk_point [iblk, V, idx t]
  have h2 : (fun q j => (iblk m c 2 t : FVec Ideal S1024x2816 .bf16) (ix2 q j)) = fun q j => m ((c : Thread nD τ).loc main_arg2) (ix2 q j) := by
    funext q j; blk_point [iblk, V, idx t]
  have h3 : (fun q j => (iblk m c 3 t : FVec Ideal S1024x2816 .bf16) (ix2 q j)) = fun q j => m ((c : Thread nD τ).loc main_arg3) (ix2 q j) := by
    funext q j; blk_point [iblk, V, idx t]
  have h4 : (fun q j => (iblk m c 4 t : FVec Ideal S2816x1024 .bf16) (ix2 q j)) = fun q j => m ((c : Thread nD τ).loc main_arg4) (ix2 q j) := by
    funext q j; blk_point [iblk, V, idx t]
  have h5 : (fun q => (iblk m c 5 t : FVec Ideal S1x1024 .f32) (ix2 0 q)) = fun q => m ((c : Thread nD τ).loc main_arg5) (ix1 q) := by
    funext q; blk_point [iblk, V, idx t]
  rw [h0, h1, h2, h3, h4, h5]

end Cert.Ffn

end
-- ==== Proof.FfnClaims.lean ====
/- The feed-forward call's claims: the frames of the kernel as compiled, of its ideal form and of the reference, and
   the equality of the two result arrays, from the value lemmas of `Proof/Ffn.lean`. -/
module

public import proofs.«01_k».proof.Defs
public import proofs.«01_k».proof.Proof.Ffn
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import Idealize.ShloMosaic.Lib.Quiescent

@[expose] public section

set_option maxRecDepth 16384

noncomputable section

namespace Cert.Ffn

open Idealize.ShloMosaic Idealize.ShloMosaic.TcCoe Idealize.SL.Sem

/-- The kernel as compiled terminates, leaves its arguments as they were and every semaphore at zero. -/
theorem frame_kernel : Cert.quiescent_Kernel2 := fun m ρ _ => Cert.Kernel2.Gen.frame m ρ

/-- The kernel's ideal form terminates, leaves its arguments as they were and every semaphore at zero. -/
theorem frame_ideal : Cert.quiescent_Kernel2Ideal := fun m ρ _ => Cert.Kernel2Ideal.Gen.frame m ρ

/-- The reference terminates and leaves its arguments as they were; it has no semaphore. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The compiled kernel and its ideal form are one program. -/
theorem preserved : Cert.preserves_Kernel2_Kernel2Ideal := trivial

/-- On equal arguments the ideal kernel and the reference end with equal result arrays. -/
theorem algebraic : Cert.algebraic_Kernel2Ideal_Reference2Ideal := by
  intro m ρ m' ρ' _ hagree
  refine ⟨fun c => (Cert.Kernel2Ideal.Gen.dats m 0 c).arrAt 6 Cert.Kernel2Ideal.cfg0.N, ?_, ?_⟩
  · exact Cert.Kernel2Ideal.Value.run_blocks (F := Ideal) m ρ
  refine (θ_run Cert.Reference2Ideal.defs _ _).mono (fun _ h c => ⟨(h c).1.trans ?_, (h c).2⟩)
    (Cert.Reference2Ideal.Value.run (F := Ideal) m' ρ')
  obtain ⟨a0, a1, a2, a3, a4, a5⟩ := hagree c
  refine Eq.trans ?_ (final m c).symm
  rw [Cert.Reference2Ideal.Read.val_main_v32_eq m' c, a0, a1, a2, a3, a4, a5]

end Cert.Ffn

end
-- ==== Proof.MixItem.lean ====
/- The read-out of the recurrence as the mix kernel computes it: 64 tokens by one pair of heads at a time. The pair's two
   64×64 states stand on the diagonal of one 128×128 matrix, and the heads' means are sums over all 128 lanes with the
   other head's lanes masked out. Row by row and head by head this is the plain read-out `Mix.readout`. -/
module

public import proofs.«01_k».proof.Proof.Gen.Kernel3Ideal.Skeleton
public import Idealize.ShloMosaic.Lib.Pointwise

@[expose] public section

set_option maxRecDepth 16384

noncomputable section

open Idealize.ShloMosaic Idealize.ShloMosaic.TcCoe Idealize.SL.Sem

namespace Cert.Mix

/-- A head's mean: the sum of its 64 numbers times 1/64. -/
def mean (y : Fin 64 → EReal) : EReal := (∑ d, y d) * Ideal.ofBits FTy.f32 1015021568#32

/-- A head's numbers, centred and divided by the root of their variance plus `64e-5`. -/
def norm (y : Fin 64 → EReal) (d : Fin 64) : EReal :=
  (y d - mean y) * Ideal.rsqrt (mean (fun e => (y e - mean y) * (y e - mean y)) + Ideal.ofBits FTy.f32 975685036#32)

/-- One token's read-out of one head: the query times the state, plus what the chunk itself contributes. -/
def head (q : Fin 64 → EReal) (S : Fin 64 → Fin 64 → EReal) (y0 : Fin 64 → EReal) (d : Fin 64) : EReal :=
  ∑ n, q n * S n d + y0 d

open Cert.Kernel3Ideal Cert.Kernel3Ideal.Gen

/-- 64 tokens by a pair of heads: one factor of the read-out. -/
abbrev Tile := FVec Ideal S64x128 .f32
abbrev Tok := FVec Ideal S1x64x128 .f32
abbrev Qry := FVec Ideal S1x64x128 .bf16
abbrev Sta := FVec Ideal S1x1x1x64x128 .bf16
abbrev Wgt := FVec Ideal S1x128 .f32

/-- The read-out before the norm, as the kernel computes it. -/
def raw (q : Qry) (h : Sta) (y0 : Tok) : Tile := k0_pay2 (F := Ideal) q h y0

/-- The centred read-out, as the kernel computes it. -/
def cen (y : Tile) : Tile := k0_pay105 (F := Ideal) y (k0_pay64 y k0_pay60)

/-- A centred read-out normed, weighted and gated, as the kernel computes it. -/
def gate (c : Tile) (w b : Wgt) (bonus g : Tok) : Tile := k0_pay195 (F := Ideal) c (k0_pay139 k0_pay60 c) w b bonus g

/-- The normed, weighted and gated read-out, as the kernel computes it. -/
def gated (y : Tile) (w b : Wgt) (bonus g : Tok) : Tile := gate (cen y) w b bonus g

theorem select_lt : ∀ (x : Fin 128) (p q : EReal),
    Scalar.select (IntOp.cmpi CmpIPredicate.slt (BitVec.ofNat 32 x.val) 64#32) p q = if x.val < 64 then p else q := by
  have key : ∀ x : Fin 128, IntOp.cmpi CmpIPredicate.slt (BitVec.ofNat 32 x.val) 64#32 = if x.val < 64 then 1#1 else 0#1 := by decide
  intro x p q
  rw [key x]
  by_cases h : x.val < 64
  · rw [if_pos h, if_pos h]; rfl
  · rw [if_neg h, if_neg h]; rfl

theorem lane_lt {l : Fin 128} (d : Fin 64) : l.val / 64 * 64 + d.val < 128 := by omega

/-- The head that lane `l` belongs to, of a row of a pair. -/
def headOf (f : Fin 128 → EReal) (l : Fin 128) (d : Fin 64) : EReal := f ⟨l.val / 64 * 64 + d.val, lane_lt d⟩

theorem sum_halves (f : Fin 128 → EReal) :
    ∑ x, f x = (∑ k : Fin 64, f ⟨k.val, by omega⟩) + ∑ k : Fin 64, f ⟨64 + k.val, by omega⟩ :=
  Fin.sum_univ_add (a := 64) (b := 64) f

theorem headOf_low (f : Fin 128 → EReal) {l : Fin 128} (hl : l.val < 64) (d : Fin 64) : headOf f l d = f ⟨d.val, by omega⟩ := by
  unfold headOf; congr 2; omega

theorem headOf_high (f : Fin 128 → EReal) {l : Fin 128} (hl : ¬l.val < 64) (d : Fin 64) : headOf f l d = f ⟨64 + d.val, by omega⟩ := by
  unfold headOf; congr 2; omega

/-- The product with the block-diagonal states is each head's query times its own state. -/
theorem raw_apply (q : Qry) (h : Sta) (y0 : Tok) (r : Fin 64) (l : Fin 128) :
    raw q h y0 (ix2 r l) = ∑ n : Fin 64, headOf (fun k => q (ix3 0 r k)) l n * h (ix5 0 0 0 n l) + y0 (ix3 0 r l) := by
  pointwise [raw, k0_pay2]
  simp only [select_lt]
  by_cases hl : l.val < 64
  · simp only [if_pos hl, headOf_low _ hl, Finset.sum_const_zero, add_zero]
  · simp only [if_neg hl, headOf_high _ hl, Finset.sum_const_zero, zero_add]

/-- The masked sums over 128 lanes are the sum over the lane's own head. -/
theorem masked_sum (f : Fin 128 → EReal) (l : Fin 128) :
    (if l.val < 64 then ∑ x : Fin 128, (if x.val < 64 then f x else 0) else ∑ x : Fin 128, (if x.val < 64 then 0 else f x))
      = ∑ d, headOf f l d := by
  rw [sum_halves (fun x => if x.val < 64 then f x else 0), sum_halves (fun x => if x.val < 64 then 0 else f x)]
  by_cases hl : l.val < 64
  · simp [if_pos hl, headOf_low _ hl]
  · simp [if_neg hl, headOf_high _ hl]

theorem mean_apply (y : Tile) (r : Fin 64) (l : Fin 128) :
    k0_pay64 (F := Ideal) y k0_pay60 (ix2 r l) = mean (headOf (fun k => y (ix2 r k)) l) := by
  pointwise [k0_pay64, k0_pay60]
  simp only [select_lt]
  rw [masked_sum (fun k => y (ix2 r k)) l]
  rfl

theorem headOf_idem (f : Fin 128 → EReal) (l : Fin 128) (d : Fin 64) :
    headOf f ⟨l.val / 64 * 64 + d.val, lane_lt d⟩ = headOf f l := by
  funext e
  refine congrArg f (Fin.ext ?_)
  show (l.val / 64 * 64 + d.val) / 64 * 64 + e.val = l.val / 64 * 64 + e.val
  omega

theorem cen_apply (y : Tile) (r : Fin 64) (l : Fin 128) :
    cen y (ix2 r l) = y (ix2 r l) - mean (headOf (fun k => y (ix2 r k)) l) := by
  have h := mean_apply y r l
  unfold cen
  generalize k0_pay64 (F := Ideal) y k0_pay60 = M at h
  pointwise [k0_pay105]
  rw [h]

theorem var_apply (c : Tile) (r : Fin 64) (l : Fin 128) :
    k0_pay139 (F := Ideal) k0_pay60 c (ix2 r l) = mean (headOf (fun k => c (ix2 r k) * c (ix2 r k)) l) := by
  pointwise [k0_pay139, k0_pay60]
  simp only [select_lt]
  rw [masked_sum (fun k => c (ix2 r k) * c (ix2 r k)) l]
  rfl

/-- A lane's place within its head. -/
theorem mod_lt (l : Fin 128) : l.val % 64 < 64 := by omega

/-- The normed read-out of a lane is its head's, at the lane's place. -/
theorem gated_apply (y : Tile) (w b : Wgt) (bonus g : Tok) (r : Fin 64) (l : Fin 128) :
    gated y w b bonus g (ix2 r l)
      = (norm (headOf (fun k => y (ix2 r k)) l) ⟨l.val % 64, mod_lt l⟩ * w (ix2 0 l) + b (ix2 0 l) + bonus (ix3 0 r l)) * g (ix3 0 r l) := by
  have hc := fun k => cen_apply y r k
  have hv : k0_pay139 (F := Ideal) k0_pay60 (cen y) (ix2 r l)
      = mean (fun e => (headOf (fun k => y (ix2 r k)) l e - mean (headOf (fun k => y (ix2 r k)) l))
          * (headOf (fun k => y (ix2 r k)) l e - mean (headOf (fun k => y (ix2 r k)) l))) := by
    rw [var_apply]
    congr 1
    funext e
    show cen y (ix2 r ⟨l.val / 64 * 64 + e.val, lane_lt e⟩) * cen y (ix2 r ⟨l.val / 64 * 64 + e.val, lane_lt e⟩) = _
    rw [hc, headOf_idem]
    rfl
  have hy : headOf (fun k => y (ix2 r k)) l ⟨l.val % 64, mod_lt l⟩ = y (ix2 r l) := by
    unfold headOf
    have e : (⟨l.val / 64 * 64 + (⟨l.val % 64, mod_lt l⟩ : Fin 64).val, lane_lt _⟩ : Fin 128) = l := Fin.ext (by simp only []; omega)
    rw [e]
  have hcl := hc l
  unfold gated gate norm
  rw [hy]
  generalize k0_pay139 (F := Ideal) k0_pay60 (cen y) = V at hv
  generalize cen y = C at hcl
  pointwise [k0_pay195]
  rw [hcl, hv]

end Cert.Mix

end
-- ==== Proof.MixFold.lean ====
/- The read-outs of one grid point: 32 of them (eight chunks by four pairs of heads), each cut at different places in the
   kernel's straight-line body. Each lemma here says that one of these cuts, put together, is the one tile operation of
   `Proof/MixItem.lean`; all hold by unfolding. -/
module

public import proofs.«01_k».proof.Proof.MixItem

@[expose] public section

set_option maxRecDepth 16384

noncomputable section

open Idealize.ShloMosaic Idealize.ShloMosaic.TcCoe Idealize.SL.Sem

namespace Cert.Mix

open Cert.Kernel3Ideal Cert.Kernel3Ideal.Gen

theorem raw_0 (q : Qry) (h : Sta) (y0 : Tok) : k0_pay2 (F := Ideal) q h y0 = raw q h y0 := rfl
theorem raw_1 (q : Qry) (h : Sta) (y0 : Tok) : k0_pay3 (F := Ideal) q h y0 = raw q h y0 := rfl
theorem raw_2 (q : Qry) (h : Sta) (y0 : Tok) : k0_pay4 (F := Ideal) q h y0 = raw q h y0 := rfl
theorem raw_3 (q : Qry) (h : Sta) (y0 : Tok) : k0_pay5 (F := Ideal) q h y0 = raw q h y0 := rfl
theorem raw_4 (q : Qry) (h : Sta) (y0 : Tok) : k0_pay6 (F := Ideal) q h y0 = raw q h y0 := rfl
theorem raw_5 (q : Qry) (h : Sta) (y0 : Tok) : k0_pay7 (F := Ideal) q h y0 = raw q h y0 := rfl
theorem raw_6 (q : Qry) (h : Sta) (y0 : Tok) : k0_pay8 (F := Ideal) q h y0 = raw q h y0 := rfl
theorem raw_7 (q : Qry) (h : Sta) (y0 : Tok) : k0_pay9 (F := Ideal) q h y0 = raw q h y0 := rfl
theorem raw_8 (q : Qry) (h : Sta) (y0 : Tok) : k0_pay11 (F := Ideal) (k0_pay10 q) h y0 = raw q h y0 := rfl
theorem raw_9 (q : Qry) (h : Sta) (y0 : Tok) : k0_pay12 (F := Ideal) q h y0 = raw q h y0 := rfl
theorem raw_10 (q : Qry) (h : Sta) (y0 : Tok) : k0_pay14 (F := Ideal) (k0_pay13 q) h y0 = raw q h y0 := rfl
theorem raw_11 (q : Qry) (h : Sta) (y0 : Tok) : k0_pay15 (F := Ideal) q h y0 = raw q h y0 := rfl
theorem raw_12 (q : Qry) (h : Sta) (y0 : Tok) : k0_pay17 (F := Ideal) (k0_pay16 q) h y0 = raw q h y0 := rfl
theorem raw_13 (q : Qry) (h : Sta) (y0 : Tok) : k0_pay18 (F := Ideal) q h y0 = raw q h y0 := rfl
theorem raw_14 (q : Qry) (h : Sta) (y0 : Tok) : k0_pay21 (F := Ideal) (k0_pay19 q) (k0_pay20 h) y0 = raw q h y0 := rfl
theorem raw_15 (q : Qry) (h : Sta) (y0 : Tok) : k0_pay22 (F := Ideal) q h y0 = raw q h y0 := rfl
theorem raw_16 (q : Qry) (h : Sta) (y0 : Tok) : k0_pay25 (F := Ideal) (k0_pay23 q) (k0_pay24 h) (iota .tc S64x128 32 [1] iota_S64x128_d1_w32) 64#32 y0 = raw q h y0 := rfl
theorem raw_17 (q : Qry) (h : Sta) (y0 : Tok) : k0_pay26 (F := Ideal) q h y0 = raw q h y0 := rfl
theorem raw_18 (q : Qry) (h : Sta) (y0 : Tok) : k0_pay30 (F := Ideal) (k0_pay27 q) (k0_pay28 h) k0_pay29 y0 = raw q h y0 := rfl
theorem raw_19 (q : Qry) (h : Sta) (y0 : Tok) : k0_pay31 (F := Ideal) q h y0 = raw q h y0 := rfl
theorem raw_20 (q : Qry) (h : Sta) (y0 : Tok) : k0_pay36 (F := Ideal) (k0_pay32 q) (k0_pay33 h) k0_pay34 (k0_pay35 ) y0 = raw q h y0 := rfl
theorem raw_21 (q : Qry) (h : Sta) (y0 : Tok) : k0_pay37 (F := Ideal) q h y0 = raw q h y0 := rfl
theorem raw_22 (q : Qry) (h : Sta) (y0 : Tok) : k0_pay44 (F := Ideal) (k0_pay38 q) (k0_pay42 h) (k0_pay43 h) y0 = raw q h y0 := rfl
theorem raw_23 (q : Qry) (h : Sta) (y0 : Tok) : k0_pay45 (F := Ideal) q h y0 = raw q h y0 := rfl
theorem raw_24 (q : Qry) (h : Sta) (y0 : Tok) : k0_pay48 (F := Ideal) (k0_pay46 q) (k0_pay47 h) (constant S64x128 .f32 0x00000000#32) y0 = raw q h y0 := rfl
theorem raw_25 (q : Qry) (h : Sta) (y0 : Tok) : k0_pay49 (F := Ideal) q h y0 = raw q h y0 := rfl
theorem raw_26 (q : Qry) (h : Sta) (y0 : Tok) : k0_pay51 (F := Ideal) (k0_pay50 q h) y0 = raw q h y0 := rfl
theorem raw_27 (q : Qry) (h : Sta) (y0 : Tok) : k0_pay52 (F := Ideal) q h y0 = raw q h y0 := rfl
theorem raw_28 (q : Qry) (h : Sta) (y0 : Tok) : k0_pay54 (F := Ideal) (k0_pay53 q h) y0 = raw q h y0 := rfl
theorem raw_29 (q : Qry) (h : Sta) (y0 : Tok) : k0_pay55 (F := Ideal) q h y0 = raw q h y0 := rfl
theorem raw_30 (q : Qry) (h : Sta) (y0 : Tok) : k0_pay58 (F := Ideal) (k0_pay56 q h) (k0_pay57 y0) = raw q h y0 := rfl
theorem raw_31 (q : Qry) (h : Sta) (y0 : Tok) : k0_pay59 (F := Ideal) q h y0 = raw q h y0 := rfl
theorem cen_1 (y : Tile) : k0_pay104 (F := Ideal) y (k0_pay63 y k0_pay60 (k0_pay62 y)) = cen y := rfl
theorem cen_2 (y : Tile) : k0_pay105 (F := Ideal) y (k0_pay64 y k0_pay60) = cen y := rfl
theorem cen_3 (y : Tile) : k0_pay106 (F := Ideal) y (k0_pay65 y k0_pay60) = cen y := rfl
theorem cen_4 (y : Tile) : k0_pay107 (F := Ideal) y (k0_pay67 y k0_pay60 (k0_pay66 y k0_pay60)) = cen y := rfl
theorem cen_5 (y : Tile) : k0_pay108 (F := Ideal) y (k0_pay68 y k0_pay60) = cen y := rfl
theorem cen_6 (y : Tile) : k0_pay109 (F := Ideal) y (k0_pay69 y k0_pay60) = cen y := rfl
theorem cen_7 (y : Tile) : k0_pay110 (F := Ideal) y (k0_pay71 y k0_pay60 (k0_pay70 y k0_pay60)) = cen y := rfl
theorem cen_8 (y : Tile) : k0_pay111 (F := Ideal) y (k0_pay72 y k0_pay60) = cen y := rfl
theorem cen_9 (y : Tile) : k0_pay112 (F := Ideal) y (k0_pay73 y k0_pay60) = cen y := rfl
theorem cen_10 (y : Tile) : k0_pay113 (F := Ideal) y (k0_pay75 y k0_pay60 (k0_pay74 y k0_pay60)) = cen y := rfl
theorem cen_11 (y : Tile) : k0_pay114 (F := Ideal) y (k0_pay76 y k0_pay60) = cen y := rfl
theorem cen_12 (y : Tile) : k0_pay115 (F := Ideal) y (k0_pay77 y k0_pay60) = cen y := rfl
theorem cen_13 (y : Tile) : k0_pay116 (F := Ideal) y (k0_pay79 y k0_pay60 (k0_pay78 y k0_pay60)) = cen y := rfl
theorem cen_14 (y : Tile) : k0_pay117 (F := Ideal) y (k0_pay80 y k0_pay60) = cen y := rfl
theorem cen_15 (y : Tile) : k0_pay118 (F := Ideal) y (k0_pay81 y k0_pay60) = cen y := rfl
theorem cen_16 (y : Tile) : k0_pay119 (F := Ideal) y (k0_pay83 y k0_pay60 (k0_pay82 y k0_pay60)) = cen y := rfl
theorem cen_17 (y : Tile) : k0_pay120 (F := Ideal) y (k0_pay84 y k0_pay60) = cen y := rfl
theorem cen_18 (y : Tile) : k0_pay121 (F := Ideal) y (k0_pay85 y k0_pay60) = cen y := rfl
theorem cen_19 (y : Tile) : k0_pay122 (F := Ideal) y (k0_pay87 y k0_pay60 (k0_pay86 y k0_pay60)) = cen y := rfl
theorem cen_20 (y : Tile) : k0_pay123 (F := Ideal) y (k0_pay88 y k0_pay60) = cen y := rfl
theorem cen_21 (y : Tile) : k0_pay124 (F := Ideal) y (k0_pay89 y k0_pay60) = cen y := rfl
theorem cen_22 (y : Tile) : k0_pay125 (F := Ideal) y (k0_pay91 y k0_pay60 (k0_pay90 y k0_pay60)) = cen y := rfl
theorem cen_23 (y : Tile) : k0_pay126 (F := Ideal) y (k0_pay92 y k0_pay60) = cen y := rfl
theorem cen_24 (y : Tile) : k0_pay127 (F := Ideal) y (k0_pay93 y k0_pay60) = cen y := rfl
theorem cen_25 (y : Tile) : k0_pay128 (F := Ideal) y (k0_pay95 y k0_pay60 (k0_pay94 y k0_pay60)) = cen y := rfl
theorem cen_26 (y : Tile) : k0_pay129 (F := Ideal) y (k0_pay96 y k0_pay60) = cen y := rfl
theorem cen_27 (y : Tile) : k0_pay130 (F := Ideal) y (k0_pay97 y k0_pay60) = cen y := rfl
theorem cen_28 (y : Tile) : k0_pay131 (F := Ideal) y (k0_pay99 y k0_pay60 (k0_pay98 y k0_pay60)) = cen y := rfl
theorem cen_29 (y : Tile) : k0_pay132 (F := Ideal) y (k0_pay100 y k0_pay60) = cen y := rfl
theorem cen_30 (y : Tile) : k0_pay133 (F := Ideal) y (k0_pay101 y k0_pay60) = cen y := rfl
theorem cen_31 (y : Tile) : k0_pay134 (F := Ideal) y k0_pay60 (k0_pay102 y k0_pay60) = cen y := rfl
theorem cen_0 (y : Tile) : k0_pay103 (F := Ideal) y (k0_pay61 y) = cen y := rfl
theorem gate_0 (y : Tile) (w b : Wgt) (bonus g : Tok) : k0_pay194 (F := Ideal) (k0_pay103 y (k0_pay61 y)) (k0_pay138 k0_pay60 (k0_pay136 y k0_pay60 (k0_pay61 y)) (k0_pay137 y k0_pay60 (k0_pay61 y))) k0_pay193 w b bonus g = gated y w b bonus g := rfl
theorem gate_1 (c : Tile) (w b : Wgt) (bonus g : Tok) : k0_pay195 (F := Ideal) c (k0_pay139 k0_pay60 c) w b bonus g = gate c w b bonus g := rfl
theorem gate_2 (c : Tile) (w b : Wgt) (bonus g : Tok) : k0_pay197 (F := Ideal) c (k0_pay196 (k0_pay140 k0_pay60 c)) w b bonus g = gate c w b bonus g := rfl
theorem gate_3 (c : Tile) (w b : Wgt) (bonus g : Tok) : k0_pay198 (F := Ideal) c (k0_pay144 k0_pay60 (k0_pay142 k0_pay60 c) (k0_pay143 k0_pay60 c)) w b bonus g = gate c w b bonus g := rfl
theorem gate_4 (c : Tile) (w b : Wgt) (bonus g : Tok) : k0_pay200 (F := Ideal) (k0_pay199 c (k0_pay145 k0_pay60 c)) w b bonus g = gate c w b bonus g := rfl
theorem gate_5 (c : Tile) (w b : Wgt) (bonus g : Tok) : k0_pay201 (F := Ideal) c (k0_pay146 k0_pay60 c) w b bonus g = gate c w b bonus g := rfl
theorem gate_6 (c : Tile) (w b : Wgt) (bonus g : Tok) : k0_pay203 (F := Ideal) (k0_pay202 c (k0_pay149 k0_pay60 (k0_pay147 c) (k0_pay148 k0_pay60 c) (Scalar.ofBits .f32 0x00000000#32))) w b bonus g = gate c w b bonus g := rfl
theorem gate_7 (c : Tile) (w b : Wgt) (bonus g : Tok) : k0_pay204 (F := Ideal) c (k0_pay150 k0_pay60 c) w b bonus g = gate c w b bonus g := rfl
theorem gate_8 (c : Tile) (w b : Wgt) (bonus g : Tok) : k0_pay207 (F := Ideal) (k0_pay205 c (k0_pay151 k0_pay60 c)) (k0_pay206 w) b bonus g = gate c w b bonus g := rfl
theorem gate_9 (c : Tile) (w b : Wgt) (bonus g : Tok) : k0_pay208 (F := Ideal) c (k0_pay154 k0_pay60 (k0_pay152 c) (k0_pay153 k0_pay60 c)) w b bonus g = gate c w b bonus g := rfl
theorem gate_10 (c : Tile) (w b : Wgt) (bonus g : Tok) : k0_pay210 (F := Ideal) (k0_pay209 c (k0_pay155 k0_pay60 c) w) b bonus g = gate c w b bonus g := rfl
theorem gate_11 (c : Tile) (w b : Wgt) (bonus g : Tok) : k0_pay211 (F := Ideal) c (k0_pay156 k0_pay60 c) w b bonus g = gate c w b bonus g := rfl
theorem gate_12 (c : Tile) (w b : Wgt) (bonus g : Tok) : k0_pay213 (F := Ideal) (k0_pay212 c (k0_pay158 k0_pay60 (k0_pay157 c) (Scalar.ofBits .f32 0x00000000#32)) w) b bonus g = gate c w b bonus g := rfl
theorem gate_13 (c : Tile) (w b : Wgt) (bonus g : Tok) : k0_pay214 (F := Ideal) c (k0_pay159 k0_pay60 c) w b bonus g = gate c w b bonus g := rfl
theorem gate_14 (c : Tile) (w b : Wgt) (bonus g : Tok) : k0_pay217 (F := Ideal) (k0_pay215 c (k0_pay162 (k0_pay160 k0_pay60 c) k0_pay161) w) (k0_pay216 b) bonus g = gate c w b bonus g := rfl
theorem gate_15 (c : Tile) (w b : Wgt) (bonus g : Tok) : k0_pay218 (F := Ideal) c (k0_pay163 k0_pay60 c) w b bonus g = gate c w b bonus g := rfl
theorem gate_16 (c : Tile) (w b : Wgt) (bonus g : Tok) : k0_pay220 (F := Ideal) (k0_pay219 c (k0_pay164 k0_pay60 c) w b) bonus g = gate c w b bonus g := rfl
theorem gate_17 (c : Tile) (w b : Wgt) (bonus g : Tok) : k0_pay221 (F := Ideal) c (k0_pay168 k0_pay60 (k0_pay166 k0_pay60 c) (k0_pay167 k0_pay60 c)) w b bonus g = gate c w b bonus g := rfl
theorem gate_18 (c : Tile) (w b : Wgt) (bonus g : Tok) : k0_pay223 (F := Ideal) (k0_pay222 c (k0_pay169 k0_pay60 c) w b) bonus g = gate c w b bonus g := rfl
theorem gate_19 (c : Tile) (w b : Wgt) (bonus g : Tok) : k0_pay224 (F := Ideal) c (k0_pay170 k0_pay60 c) w b bonus g = gate c w b bonus g := rfl
theorem gate_20 (c : Tile) (w b : Wgt) (bonus g : Tok) : k0_pay227 (F := Ideal) (k0_pay225 c (k0_pay174 k0_pay60 (k0_pay172 k0_pay60 c) (k0_pay173 k0_pay60 c)) w b) (k0_pay226 bonus) g = gate c w b bonus g := rfl
theorem gate_21 (c : Tile) (w b : Wgt) (bonus g : Tok) : k0_pay228 (F := Ideal) c (k0_pay175 k0_pay60 c) w b bonus g = gate c w b bonus g := rfl
theorem gate_22 (c : Tile) (w b : Wgt) (bonus g : Tok) : k0_pay230 (F := Ideal) (k0_pay229 c (k0_pay176 k0_pay60 c) w b bonus) g = gate c w b bonus g := rfl
theorem gate_23 (c : Tile) (w b : Wgt) (bonus g : Tok) : k0_pay231 (F := Ideal) c (k0_pay180 k0_pay60 (k0_pay178 k0_pay60 c) (k0_pay179 k0_pay60 c)) w b bonus g = gate c w b bonus g := rfl
theorem gate_24 (c : Tile) (w b : Wgt) (bonus g : Tok) : k0_pay233 (F := Ideal) (k0_pay232 c (k0_pay181 k0_pay60 c) w b bonus) g = gate c w b bonus g := rfl
theorem gate_25 (c : Tile) (w b : Wgt) (bonus g : Tok) : k0_pay234 (F := Ideal) c (k0_pay182 k0_pay60 c) w b bonus g = gate c w b bonus g := rfl
theorem gate_26 (c : Tile) (w b : Wgt) (bonus g : Tok) : k0_pay237 (F := Ideal) (k0_pay235 c (k0_pay185 k0_pay60 (k0_pay183 c) (k0_pay184 k0_pay60 c) (Scalar.ofBits .f32 0x00000000#32)) w b bonus) (k0_pay236 g) = gate c w b bonus g := rfl
theorem gate_27 (c : Tile) (w b : Wgt) (bonus g : Tok) : k0_pay238 (F := Ideal) c (k0_pay186 k0_pay60 c) w b bonus g = gate c w b bonus g := rfl
theorem gate_28 (c : Tile) (w b : Wgt) (bonus g : Tok) : k0_pay239 (F := Ideal) c (k0_pay187 k0_pay60 c) w b bonus g = gate c w b bonus g := rfl
theorem gate_29 (c : Tile) (w b : Wgt) (bonus g : Tok) : k0_pay240 (F := Ideal) c (k0_pay190 k0_pay60 (k0_pay188 c) (k0_pay189 k0_pay60 c)) (Scalar.ofBits .f32 0x3A27C5AC#32) w b bonus g = gate c w b bonus g := rfl
theorem gate_30 (c : Tile) (w b : Wgt) (bonus g : Tok) : k0_pay241 (F := Ideal) c (k0_pay191 k0_pay60 c) w b bonus g = gate c w b bonus g := rfl

/-- The 32 read-outs laid side by side and below one another, times the lower half of the output weights: what the kernel
    adds to the stream for the recurrence. -/
def mixed (o0 o1 o2 o3 o4 o5 o6 o7 o8 o9 o10 o11 o12 o13 o14 o15 o16 o17 o18 o19 o20 o21 o22 o23 o24 o25 o26 o27 o28 o29 o30 o31 : Tile) (W : FVec Ideal S512x1024 .bf16) : FVec Ideal S512x1024 .f32 :=
  matmul (F := Ideal) dot_S512x512_S512x1024_S512x1024_1_0_0_1_n_n none
    (truncf (F := Ideal) .bf16 (concatenate S512x512 0 [
      ⟨S64x512, concatenate S64x512 1 [⟨S64x128, o0⟩, ⟨S64x128, o1⟩, ⟨S64x128, o2⟩, ⟨S64x128, o3⟩] concatenates_S64x128_S64x128_S64x128_S64x128_S64x512_d1⟩,
      ⟨S64x512, concatenate S64x512 1 [⟨S64x128, o4⟩, ⟨S64x128, o5⟩, ⟨S64x128, o6⟩, ⟨S64x128, o7⟩] concatenates_S64x128_S64x128_S64x128_S64x128_S64x512_d1⟩,
      ⟨S64x512, concatenate S64x512 1 [⟨S64x128, o8⟩, ⟨S64x128, o9⟩, ⟨S64x128, o10⟩, ⟨S64x128, o11⟩] concatenates_S64x128_S64x128_S64x128_S64x128_S64x512_d1⟩,
      ⟨S64x512, concatenate S64x512 1 [⟨S64x128, o12⟩, ⟨S64x128, o13⟩, ⟨S64x128, o14⟩, ⟨S64x128, o15⟩] concatenates_S64x128_S64x128_S64x128_S64x128_S64x512_d1⟩,
      ⟨S64x512, concatenate S64x512 1 [⟨S64x128, o16⟩, ⟨S64x128, o17⟩, ⟨S64x128, o18⟩, ⟨S64x128, o19⟩] concatenates_S64x128_S64x128_S64x128_S64x128_S64x512_d1⟩,
      ⟨S64x512, concatenate S64x512 1 [⟨S64x128, o20⟩, ⟨S64x128, o21⟩, ⟨S64x128, o22⟩, ⟨S64x128, o23⟩] concatenates_S64x128_S64x128_S64x128_S64x128_S64x512_d1⟩,
      ⟨S64x512, concatenate S64x512 1 [⟨S64x128, o24⟩, ⟨S64x128, o25⟩, ⟨S64x128, o26⟩, ⟨S64x128, o27⟩] concatenates_S64x128_S64x128_S64x128_S64x128_S64x512_d1⟩,
      ⟨S64x512, concatenate S64x512 1 [⟨S64x128, o28⟩, ⟨S64x128, o29⟩, ⟨S64x128, o30⟩, ⟨S64x128, o31⟩] concatenates_S64x128_S64x128_S64x128_S64x128_S64x512_d1⟩] concatenates_S64x512_S64x512_S64x512_S64x512_S64x512_S64x512_S64x512_S64x512_S512x512_d0) bitsLt_bf16_f32)
    (shapeCast S512x1024 W shapeCasts_S512x1024_S512x1024) (constant S512x1024 .f32 0x00000000#32)

/-- The kernel finishes the last read-out and multiplies in one go. -/
theorem gate_31 (o0 o1 o2 o3 o4 o5 o6 o7 o8 o9 o10 o11 o12 o13 o14 o15 o16 o17 o18 o19 o20 o21 o22 o23 o24 o25 o26 o27 o28 o29 o30 c : Tile) (w b : Wgt) (bonus g : Tok) (W : FVec Ideal S512x1024 .bf16) :
    k0_pay244 (F := Ideal) c o0 o1 o2 o3 o4 o5 o6 o7 o8 o9 o10 o11 o12 o13 o14 o15 o16 o17 o18 o19 o20 o21 o22 o23 o24 o25 o26 o27 o28 o29 o30 (k0_pay242 (k0_pay192 k0_pay60 c)) w b bonus g W
      = mixed o0 o1 o2 o3 o4 o5 o6 o7 o8 o9 o10 o11 o12 o13 o14 o15 o16 o17 o18 o19 o20 o21 o22 o23 o24 o25 o26 o27 o28 o29 o30 (gate c w b bonus g) W := rfl

end Cert.Mix

end
-- ==== Proof.MixRead.lean ====
/- What a grid point adds to the stream for the recurrence: row by row, the plain read-out of the eight heads times the
   lower half of the output weights. -/
module

public import proofs.«01_k».proof.Proof.MixFold
public import proofs.«01_k».proof.Proof.Gen.Kernel3Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Mix

theorem col_lt (j : Fin 512) (n : Fin 64) : j.val / 64 * 64 + n.val < 512 := by omega
theorem pair_lt (j : Fin 512) : j.val / 128 < 4 := by omega
theorem lane_lt' (j : Fin 512) (d : Fin 64) : j.val % 128 / 64 * 64 + d.val < 128 := by omega
theorem place_lt (j : Fin 512) : j.val % 64 < 64 := by omega
theorem flat_lt {p : ℕ} (hp : p < 4) (k : Fin 128) : p * 128 + k.val < 512 := by omega

/-- One token's read-out of all eight heads: column `j` is head `j / 64`'s, whose states stand two heads side by side. -/
def readout (q : Fin 512 → EReal) (S : Fin 4 → Fin 64 → Fin 128 → EReal) (y0 w b bonus g : Fin 512 → EReal) (j : Fin 512) : EReal :=
  (norm (head (fun n => q ⟨j.val / 64 * 64 + n.val, col_lt j n⟩)
      (fun n d => S ⟨j.val / 128, pair_lt j⟩ n ⟨j.val % 128 / 64 * 64 + d.val, lane_lt' j d⟩)
      (fun d => y0 ⟨j.val / 64 * 64 + d.val, col_lt j d⟩)) ⟨j.val % 64, place_lt j⟩ * w j + b j + bonus j) * g j

open Cert.Kernel3Ideal Cert.Kernel3Ideal.Gen

/-- One tile's row is the read-out of the pair's columns. -/
theorem tile_apply (q : Qry) (h : Sta) (y0 bonus g : Tok) (w b : Wgt) (r : Fin 64) (l : Fin 128)
    (Q Y0 W B BO G : Fin 512 → EReal) (S : Fin 4 → Fin 64 → Fin 128 → EReal) {p : ℕ} (hp : p < 4)
    (hq : ∀ k, q (ix3 0 r k) = Q ⟨p * 128 + k.val, flat_lt hp k⟩) (hh : ∀ n k, h (ix5 0 0 0 n k) = S ⟨p, hp⟩ n k)
    (hy : ∀ k, y0 (ix3 0 r k) = Y0 ⟨p * 128 + k.val, flat_lt hp k⟩) (hw : ∀ k, w (ix2 0 k) = W ⟨p * 128 + k.val, flat_lt hp k⟩)
    (hb : ∀ k, b (ix2 0 k) = B ⟨p * 128 + k.val, flat_lt hp k⟩) (hbo : ∀ k, bonus (ix3 0 r k) = BO ⟨p * 128 + k.val, flat_lt hp k⟩)
    (hg : ∀ k, g (ix3 0 r k) = G ⟨p * 128 + k.val, flat_lt hp k⟩) :
    gated (raw q h y0) w b bonus g (ix2 r l) = readout Q S Y0 W B BO G ⟨p * 128 + l.val, flat_lt hp l⟩ := by
  rw [gated_apply, hw, hb, hbo, hg]
  unfold readout
  have e1 : (⟨(p * 128 + l.val) / 128, pair_lt ⟨p * 128 + l.val, flat_lt hp l⟩⟩ : Fin 4) = ⟨p, hp⟩ := Fin.ext (by simp only []; omega)
  have e2 : (⟨(p * 128 + l.val) % 64, place_lt ⟨p * 128 + l.val, flat_lt hp l⟩⟩ : Fin 64) = ⟨l.val % 64, mod_lt l⟩ :=
    Fin.ext (by simp only []; omega)
  have e3 : ∀ n : Fin 64, (⟨(p * 128 + l.val) / 64 * 64 + n.val, col_lt ⟨p * 128 + l.val, flat_lt hp l⟩ n⟩ : Fin 512)
      = ⟨p * 128 + (l.val / 64 * 64 + n.val), flat_lt hp ⟨l.val / 64 * 64 + n.val, lane_lt n⟩⟩ := fun n => Fin.ext (by simp only []; omega)
  have e4 : ∀ n : Fin 64, (⟨(p * 128 + l.val) % 128 / 64 * 64 + n.val, lane_lt' ⟨p * 128 + l.val, flat_lt hp l⟩ n⟩ : Fin 128)
      = ⟨l.val / 64 * 64 + n.val, lane_lt n⟩ := fun n => Fin.ext (by simp only []; omega)
  have key : headOf (fun k => raw q h y0 (ix2 r k)) l
      = head (fun n => Q ⟨p * 128 + (l.val / 64 * 64 + n.val), flat_lt hp ⟨l.val / 64 * 64 + n.val, lane_lt n⟩⟩)
          (fun n d => S ⟨p, hp⟩ n ⟨l.val / 64 * 64 + d.val, lane_lt d⟩)
          (fun d => Y0 ⟨p * 128 + (l.val / 64 * 64 + d.val), flat_lt hp ⟨l.val / 64 * 64 + d.val, lane_lt d⟩⟩) := by
    funext d
    show raw q h y0 (ix2 r ⟨l.val / 64 * 64 + d.val, lane_lt d⟩) = _
    rw [raw_apply, hy]
    refine congrArg₂ (· + ·) (Finset.sum_congr rfl fun n _ => ?_) rfl
    rw [headOf_idem, hh]
    show q (ix3 0 r ⟨l.val / 64 * 64 + n.val, lane_lt n⟩) * _ = _
    rw [hq]
  rw [key]
  simp only [e1, e2, e3, e4]

theorem pair_of (j : Fin 512) : j.val % 128 < 128 := by omega

/-- Four tiles side by side. -/
theorem cat4 (o0 o1 o2 o3 : Tile) (r : Fin 64) (F : Fin 512 → EReal)
    (h0 : ∀ l, o0 (ix2 r l) = F ⟨0 * 128 + l.val, flat_lt (by decide) l⟩) (h1 : ∀ l, o1 (ix2 r l) = F ⟨1 * 128 + l.val, flat_lt (by decide) l⟩)
    (h2 : ∀ l, o2 (ix2 r l) = F ⟨2 * 128 + l.val, flat_lt (by decide) l⟩) (h3 : ∀ l, o3 (ix2 r l) = F ⟨3 * 128 + l.val, flat_lt (by decide) l⟩)
    (j : Fin 512) :
    (concatenate S64x512 1 [⟨S64x128, o0⟩, ⟨S64x128, o1⟩, ⟨S64x128, o2⟩, ⟨S64x128, o3⟩]
      concatenates_S64x128_S64x128_S64x128_S64x128_S64x512_d1 : FVec Ideal S64x512 .f32) (ix2 r j) = F j := by
  pointwise
  simp only [h0, h1, h2, h3]
  split_ifs <;> exact congrArg F (Fin.ext (by simp only []; omega))

theorem row_lt {a : ℕ} (ha : a < 8) (r : Fin 64) : a * 64 + r.val < 512 := by omega

/-- Eight rows of tiles below one another. -/
theorem cat8 (p0 p1 p2 p3 p4 p5 p6 p7 : FVec Ideal S64x512 .f32) (F : Fin 512 → Fin 512 → EReal) (j : Fin 512)
    (h0 : ∀ r, p0 (ix2 r j) = F ⟨0 * 64 + r.val, row_lt (by decide) r⟩ j) (h1 : ∀ r, p1 (ix2 r j) = F ⟨1 * 64 + r.val, row_lt (by decide) r⟩ j)
    (h2 : ∀ r, p2 (ix2 r j) = F ⟨2 * 64 + r.val, row_lt (by decide) r⟩ j) (h3 : ∀ r, p3 (ix2 r j) = F ⟨3 * 64 + r.val, row_lt (by decide) r⟩ j)
    (h4 : ∀ r, p4 (ix2 r j) = F ⟨4 * 64 + r.val, row_lt (by decide) r⟩ j) (h5 : ∀ r, p5 (ix2 r j) = F ⟨5 * 64 + r.val, row_lt (by decide) r⟩ j)
    (h6 : ∀ r, p6 (ix2 r j) = F ⟨6 * 64 + r.val, row_lt (by decide) r⟩ j) (h7 : ∀ r, p7 (ix2 r j) = F ⟨7 * 64 + r.val, row_lt (by decide) r⟩ j)
    (r : Fin 512) :
    (concatenate S512x512 0 [⟨S64x512, p0⟩, ⟨S64x512, p1⟩, ⟨S64x512, p2⟩, ⟨S64x512, p3⟩, ⟨S64x512, p4⟩, ⟨S64x512, p5⟩, ⟨S64x512, p6⟩, ⟨S64x512, p7⟩]
      concatenates_S64x512_S64x512_S64x512_S64x512_S64x512_S64x512_S64x512_S64x512_S512x512_d0 : FVec Ideal S512x512 .f32) (ix2 r j) = F r j := by
  pointwise
  simp only [h0, h1, h2, h3, h4, h5, h6, h7]
  split_ifs <;> exact congrArg (F · j) (Fin.ext (by simp only []; omega))

/-- The matrix product, once every tile is known. -/
theorem mixed_apply (o : Fin 8 → Fin 4 → Tile) (F : Fin 512 → Fin 512 → EReal)
    (h : ∀ a p r l, o a p (ix2 r l) = F ⟨a.val * 64 + r.val, row_lt a.isLt r⟩ ⟨p.val * 128 + l.val, flat_lt p.isLt l⟩)
    (W : FVec Ideal S512x1024 .bf16) (r : Fin 512) (c : Fin 1024) :
    mixed (o 0 0) (o 0 1) (o 0 2) (o 0 3) (o 1 0) (o 1 1) (o 1 2) (o 1 3) (o 2 0) (o 2 1) (o 2 2) (o 2 3) (o 3 0) (o 3 1) (o 3 2) (o 3 3) (o 4 0) (o 4 1) (o 4 2) (o 4 3) (o 5 0) (o 5 1) (o 5 2) (o 5 3) (o 6 0) (o 6 1) (o 6 2) (o 6 3) (o 7 0) (o 7 1) (o 7 2) (o 7 3) W (ix2 r c) = ∑ j, F r j * W (ix2 j c) := by
  have k : ∀ j, _ = F r j := fun j => cat8 _ _ _ _ _ _ _ _ F j
    (fun r => cat4 (o 0 0) (o 0 1) (o 0 2) (o 0 3) r (F ⟨0 * 64 + r.val, row_lt (by decide) r⟩) (h 0 0 r) (h 0 1 r) (h 0 2 r) (h 0 3 r) j)
    (fun r => cat4 (o 1 0) (o 1 1) (o 1 2) (o 1 3) r (F ⟨1 * 64 + r.val, row_lt (by decide) r⟩) (h 1 0 r) (h 1 1 r) (h 1 2 r) (h 1 3 r) j)
    (fun r => cat4 (o 2 0) (o 2 1) (o 2 2) (o 2 3) r (F ⟨2 * 64 + r.val, row_lt (by decide) r⟩) (h 2 0 r) (h 2 1 r) (h 2 2 r) (h 2 3 r) j)
    (fun r => cat4 (o 3 0) (o 3 1) (o 3 2) (o 3 3) r (F ⟨3 * 64 + r.val, row_lt (by decide) r⟩) (h 3 0 r) (h 3 1 r) (h 3 2 r) (h 3 3 r) j)
    (fun r => cat4 (o 4 0) (o 4 1) (o 4 2) (o 4 3) r (F ⟨4 * 64 + r.val, row_lt (by decide) r⟩) (h 4 0 r) (h 4 1 r) (h 4 2 r) (h 4 3 r) j)
    (fun r => cat4 (o 5 0) (o 5 1) (o 5 2) (o 5 3) r (F ⟨5 * 64 + r.val, row_lt (by decide) r⟩) (h 5 0 r) (h 5 1 r) (h 5 2 r) (h 5 3 r) j)
    (fun r => cat4 (o 6 0) (o 6 1) (o 6 2) (o 6 3) r (F ⟨6 * 64 + r.val, row_lt (by decide) r⟩) (h 6 0 r) (h 6 1 r) (h 6 2 r) (h 6 3 r) j)
    (fun r => cat4 (o 7 0) (o 7 1) (o 7 2) (o 7 3) r (F ⟨7 * 64 + r.val, row_lt (by decide) r⟩) (h 7 0 r) (h 7 1 r) (h 7 2 r) (h 7 3 r) j)
    r
  unfold mixed
  generalize concatenate (α := Ideal .f32) S512x512 0 _ _ = M at k ⊢
  pointwise
  simp only [k]

/-- One tile's block of an array of the grid point's 512 tokens. -/
abbrev tokOf (x : FVec Ideal S1x512x512 .f32) (a : Fin 8) (p : Fin 4) : Tok :=
  View.ld (Val := Elt Ideal) (S := S1x512x512) (e' := .f32) x
    (Rect.unit (s := S1x512x512) (![0, a.val * 64, p.val * 128] : Fin 3 → ℕ) (![1, 64, 128] : Fin 3 → ℕ) (by
      intro i; fin_cases i <;> simp <;> omega))

abbrev qryOf (x : FVec Ideal S1x512x512 .bf16) (a : Fin 8) (p : Fin 4) : Qry :=
  View.ld (Val := Elt Ideal) (S := S1x512x512) (e' := .bf16) x
    (Rect.unit (s := S1x512x512) (![0, a.val * 64, p.val * 128] : Fin 3 → ℕ) (![1, 64, 128] : Fin 3 → ℕ) (by
      intro i; fin_cases i <;> simp <;> omega))

abbrev staOf (x : FVec Ideal S1x8x4x64x128 .bf16) (a : Fin 8) (p : Fin 4) : Sta :=
  View.ld (Val := Elt Ideal) (S := S1x8x4x64x128) (e' := .bf16) x
    (Rect.unit (s := S1x8x4x64x128) (![0, a.val, p.val, 0, 0] : Fin 5 → ℕ) (![1, 1, 1, 64, 128] : Fin 5 → ℕ) (by
      intro i; fin_cases i <;> simp <;> omega))

abbrev wgtOf (x : FVec Ideal S1x512 .f32) (p : Fin 4) : Wgt :=
  View.ld (Val := Elt Ideal) (S := S1x512) (e' := .f32) x
    (Rect.unit (s := S1x512) (![0, p.val * 128] : Fin 2 → ℕ) (![1, 128] : Fin 2 → ℕ) (by
      intro i; fin_cases i <;> simp <;> omega))

/-- One of the grid point's 32 tiles. -/
def tile (x2 : FVec Ideal S1x8x4x64x128 .bf16) (x3 : FVec Ideal S1x512x512 .bf16) (x4 x5 x6 : FVec Ideal S1x512x512 .f32)
    (x7 x8 : FVec Ideal S1x512 .f32) (a : Fin 8) (p : Fin 4) : Tile :=
  gated (raw (qryOf x3 a p) (staOf x2 a p) (tokOf x4 a p)) (wgtOf x7 p) (wgtOf x8 p) (tokOf x6 a p) (tokOf x5 a p)

/-- Row `r` of a grid point's read-outs. -/
def rowOut (x2 : FVec Ideal S1x8x4x64x128 .bf16) (x3 : FVec Ideal S1x512x512 .bf16) (x4 x5 x6 : FVec Ideal S1x512x512 .f32)
    (x7 x8 : FVec Ideal S1x512 .f32) (r : Fin 512) : Fin 512 → EReal :=
  readout (fun k => x3 (ix3 0 r k)) (fun p n k => x2 (ix5 0 ⟨r.val / 64, by omega⟩ p n k)) (fun k => x4 (ix3 0 r k))
    (fun k => x7 (ix2 0 k)) (fun k => x8 (ix2 0 k)) (fun k => x6 (ix3 0 r k)) (fun k => x5 (ix3 0 r k))

theorem tile_row (x2 : FVec Ideal S1x8x4x64x128 .bf16) (x3 : FVec Ideal S1x512x512 .bf16) (x4 x5 x6 : FVec Ideal S1x512x512 .f32)
    (x7 x8 : FVec Ideal S1x512 .f32) (a : Fin 8) (p : Fin 4) (r : Fin 64) (l : Fin 128) :
    tile x2 x3 x4 x5 x6 x7 x8 a p (ix2 r l)
      = rowOut x2 x3 x4 x5 x6 x7 x8 ⟨a.val * 64 + r.val, row_lt a.isLt r⟩ ⟨p.val * 128 + l.val, flat_lt p.isLt l⟩ := by
  have ht : ∀ (x : FVec Ideal S1x512x512 .f32) (k : Fin 128), tokOf x a p (ix3 0 r k)
      = x (ix3 0 ⟨a.val * 64 + r.val, row_lt a.isLt r⟩ ⟨p.val * 128 + k.val, flat_lt p.isLt k⟩) := by
    intro x k
    refine congrArg x ?_
    funext i; apply Fin.ext; fin_cases i <;> simp [Rect.idx_unit_val]
  have hq : ∀ (k : Fin 128), qryOf x3 a p (ix3 0 r k)
      = x3 (ix3 0 ⟨a.val * 64 + r.val, row_lt a.isLt r⟩ ⟨p.val * 128 + k.val, flat_lt p.isLt k⟩) := by
    intro k
    refine congrArg x3 ?_
    funext i; apply Fin.ext; fin_cases i <;> simp [Rect.idx_unit_val]
  have hw : ∀ (x : FVec Ideal S1x512 .f32) (k : Fin 128), wgtOf x p (ix2 0 k)
      = x (ix2 0 ⟨p.val * 128 + k.val, flat_lt p.isLt k⟩) := by
    intro x k
    refine congrArg x ?_
    funext i; apply Fin.ext; fin_cases i <;> simp [Rect.idx_unit_val]
  have hs : ∀ n k, staOf x2 a p (ix5 0 0 0 n k)
      = x2 (ix5 0 ⟨(a.val * 64 + r.val) / 64, by omega⟩ p n k) := by
    intro n k
    refine congrArg x2 ?_
    funext i; apply Fin.ext; fin_cases i <;> simp [Rect.idx_unit_val]
    omega
  exact tile_apply _ _ _ _ _ _ _ r l _ _ _ _ _ _ (fun p n k => x2 (ix5 0 ⟨(a.val * 64 + r.val) / 64, by omega⟩ p n k)) p.isLt hq hs
    (ht x4) (hw x7) (hw x8) (ht x6) (ht x5)

set_option maxHeartbeats 4000000 in
/-- What a grid point adds to the stream for the recurrence, as the kernel's shared value spells it. -/
theorem fold_319 (x0 : FVec Ideal S1x512x1024 .f32) (x1 : FVec Ideal S1x512x512 .f32) (x2 : FVec Ideal S1x8x4x64x128 .bf16)
    (x3 : FVec Ideal S1x512x512 .bf16) (x4 x5 x6 : FVec Ideal S1x512x512 .f32) (x7 x8 : FVec Ideal S1x512 .f32) (x9 : FVec Ideal S128x128 .bf16)
    (x10 x11 : FVec Ideal S512x1024 .bf16) (x12 : FVec Ideal S1x1024 .f32) (x13 : FVec Ideal S1024x1024 .bf16)
    (x14 x15 : FVec Ideal S1x256x1024 .bf16) (x16 : FVec Ideal S1024x1024 .bf16) :
    k0_pay319 (F := Ideal) x0 x1 x2 x3 x4 x5 x6 x7 x8 x9 x10 x11 x12 x13 x14 x15 x16 = mixed (tile x2 x3 x4 x5 x6 x7 x8 0 0) (tile x2 x3 x4 x5 x6 x7 x8 0 1) (tile x2 x3 x4 x5 x6 x7 x8 0 2) (tile x2 x3 x4 x5 x6 x7 x8 0 3) (tile x2 x3 x4 x5 x6 x7 x8 1 0) (tile x2 x3 x4 x5 x6 x7 x8 1 1) (tile x2 x3 x4 x5 x6 x7 x8 1 2) (tile x2 x3 x4 x5 x6 x7 x8 1 3) (tile x2 x3 x4 x5 x6 x7 x8 2 0) (tile x2 x3 x4 x5 x6 x7 x8 2 1) (tile x2 x3 x4 x5 x6 x7 x8 2 2) (tile x2 x3 x4 x5 x6 x7 x8 2 3) (tile x2 x3 x4 x5 x6 x7 x8 3 0) (tile x2 x3 x4 x5 x6 x7 x8 3 1) (tile x2 x3 x4 x5 x6 x7 x8 3 2) (tile x2 x3 x4 x5 x6 x7 x8 3 3) (tile x2 x3 x4 x5 x6 x7 x8 4 0) (tile x2 x3 x4 x5 x6 x7 x8 4 1) (tile x2 x3 x4 x5 x6 x7 x8 4 2) (tile x2 x3 x4 x5 x6 x7 x8 4 3) (tile x2 x3 x4 x5 x6 x7 x8 5 0) (tile x2 x3 x4 x5 x6 x7 x8 5 1) (tile x2 x3 x4 x5 x6 x7 x8 5 2) (tile x2 x3 x4 x5 x6 x7 x8 5 3) (tile x2 x3 x4 x5 x6 x7 x8 6 0) (tile x2 x3 x4 x5 x6 x7 x8 6 1) (tile x2 x3 x4 x5 x6 x7 x8 6 2) (tile x2 x3 x4 x5 x6 x7 x8 6 3) (tile x2 x3 x4 x5 x6 x7 x8 7 0) (tile x2 x3 x4 x5 x6 x7 x8 7 1) (tile x2 x3 x4 x5 x6 x7 x8 7 2) (tile x2 x3 x4 x5 x6 x7 x8 7 3) (View.ld (Val := Elt Ideal) (S := S512x1024) (e' := .bf16) x11 r0_70) := by
  unfold k0_pay319 k0_pay317 k0_pay316 k0_pay315 k0_pay314 k0_pay313 k0_pay312 k0_pay311 k0_pay310 k0_pay309 k0_pay308 k0_pay307 k0_pay306 k0_pay305 k0_pay304 k0_pay303 k0_pay302 k0_pay301 k0_pay300 k0_pay299 k0_pay298 k0_pay297 k0_pay296 k0_pay295 k0_pay294 k0_pay293 k0_pay292 k0_pay291 k0_pay290 k0_pay289 k0_pay288 k0_pay287 k0_pay286 k0_pay285 k0_pay284 k0_pay283 k0_pay282 k0_pay281 k0_pay280 k0_pay279 k0_pay278 k0_pay277 k0_pay276 k0_pay275 k0_pay274 k0_pay273 k0_pay272 k0_pay271 k0_pay270 k0_pay269 k0_pay268 k0_pay267 k0_pay266 k0_pay265 k0_pay264 k0_pay263 k0_pay262 k0_pay261 k0_pay260 k0_pay259 k0_pay258 k0_pay257 k0_pay256 k0_pay255 k0_pay254 k0_pay253
  simp only [raw_0, raw_1, raw_2, raw_3, raw_4, raw_5, raw_6, raw_7, raw_8, raw_9, raw_10, raw_11, raw_12, raw_13, raw_14, raw_15, raw_16, raw_17, raw_18, raw_19, raw_20, raw_21, raw_22, raw_23, raw_24, raw_25, raw_26, raw_27, raw_28, raw_29, raw_30, raw_31, gate_0, cen_1, cen_2, cen_3, cen_4, cen_5, cen_6, cen_7, cen_8, cen_9, cen_10, cen_11, cen_12, cen_13, cen_14, cen_15, cen_16, cen_17, cen_18, cen_19, cen_20, cen_21, cen_22, cen_23, cen_24, cen_25, cen_26, cen_27, cen_28, cen_29, cen_30, cen_31, gate_1, gate_2, gate_3, gate_4, gate_5, gate_6, gate_7, gate_8, gate_9, gate_10, gate_11, gate_12, gate_13, gate_14, gate_15, gate_16, gate_17, gate_18, gate_19, gate_20, gate_21, gate_22, gate_23, gate_24, gate_25, gate_26, gate_27, gate_28, gate_29, gate_30, gate_31]
  rfl

/-- Row by row: the read-out times the lower half of the output weights. -/
theorem readout_dot (x0 : FVec Ideal S1x512x1024 .f32) (x1 : FVec Ideal S1x512x512 .f32) (x2 : FVec Ideal S1x8x4x64x128 .bf16)
    (x3 : FVec Ideal S1x512x512 .bf16) (x4 x5 x6 : FVec Ideal S1x512x512 .f32) (x7 x8 : FVec Ideal S1x512 .f32) (x9 : FVec Ideal S128x128 .bf16)
    (x10 x11 : FVec Ideal S512x1024 .bf16) (x12 : FVec Ideal S1x1024 .f32) (x13 : FVec Ideal S1024x1024 .bf16)
    (x14 x15 : FVec Ideal S1x256x1024 .bf16) (x16 : FVec Ideal S1024x1024 .bf16) (r : Fin 512) (c : Fin 1024) :
    k0_pay319 (F := Ideal) x0 x1 x2 x3 x4 x5 x6 x7 x8 x9 x10 x11 x12 x13 x14 x15 x16 (ix2 r c) = ∑ j, rowOut x2 x3 x4 x5 x6 x7 x8 r j * x11 (ix2 j c) := by
  rw [fold_319, mixed_apply (tile x2 x3 x4 x5 x6 x7 x8) (rowOut x2 x3 x4 x5 x6 x7 x8) (tile_row x2 x3 x4 x5 x6 x7 x8)]
  refine Finset.sum_congr rfl fun j _ => congrArg _ ?_
  pointwise

end Cert.Mix

end
-- ==== Proof.MixRows.lean ====
/- One token through the mix layer, as plain mathematics on rows: the attention over the memory that follows the two
   mixers' outputs. -/
module

public import proofs.«01_k».proof.Proof.Rows

@[expose] public section

noncomputable section

open Idealize.ShloMosaic

namespace Cert.Mix

theorem lane_of (h : Fin 4) (d : Fin 256) : h.val * 256 + d.val < 1024 := by omega

/-- The greatest of 256 scores, starting from minus infinity. -/
def top (s : Fin 256 → EReal) : EReal := Finset.univ.fold max (Ideal.ofBits FTy.f32 4286578688#32) s

/-- The softmax of 256 scores, each score less their greatest. -/
def soft (s : Fin 256 → EReal) (m : Fin 256) : EReal :=
  Ideal.div (Ideal.exp (s m - top s)) (∑ k, Ideal.exp (s k - top s))

/-- Taking the greatest of minus infinity and the greatest changes nothing. -/
theorem max_top (s : Fin 256 → EReal) : max (Ideal.ofBits FTy.f32 4286578688#32) (top s) = top s :=
  max_eq_right ((Finset.le_fold_max _).2 (Or.inl le_rfl))

/-- One token's query: its row normed, times the query weights. -/
def query (x g : Fin 1024 → EReal) (wq : Fin 1024 → Fin 1024 → EReal) (d : Fin 1024) : EReal := ∑ j, Rows.rms x g j * wq j d

/-- One head's scores of one token against the 256 memory slots, times 1/16. -/
def score (q : Fin 1024 → EReal) (K : Fin 256 → Fin 1024 → EReal) (h : Fin 4) (m : Fin 256) : EReal :=
  (∑ d : Fin 256, q ⟨h.val * 256 + d.val, lane_of h d⟩ * K m ⟨h.val * 256 + d.val, lane_of h d⟩) * Ideal.ofBits FTy.f32 1031798784#32

/-- One token after the attention over the memory, its residual added. -/
def attend (x g : Fin 1024 → EReal) (wq : Fin 1024 → Fin 1024 → EReal) (K V : Fin 256 → Fin 1024 → EReal)
    (wo : Fin 1024 → Fin 1024 → EReal) (c : Fin 1024) : EReal :=
  x c + ∑ h : Fin 4, ∑ d : Fin 256, (∑ m, soft (score (query x g wq) K h) m * V m ⟨h.val * 256 + d.val, lane_of h d⟩)
    * wo ⟨h.val * 256 + d.val, lane_of h d⟩ c

/-- One token after the two mixers: its row, plus each mixer's output times its half of the output weights. -/
def stream (x : Fin 1024 → EReal) (a b : Fin 512 → EReal) (w1 w2 : Fin 512 → Fin 1024 → EReal) (c : Fin 1024) : EReal :=
  x c + ∑ j, a j * w1 j c + ∑ j, b j * w2 j c

/-- A factor that is neither negative nor infinite goes out of a sum. -/
theorem sum_mul {n : ℕ} {c : EReal} (h0 : 0 ≤ c) (h1 : c ≠ ⊤) (f : Fin n → EReal) : ∑ d, f d * c = (∑ d, f d) * c := by
  induction n with
  | zero => simp
  | succ n ih => rw [Fin.sum_univ_succ, Fin.sum_univ_succ, ih, EReal.right_distrib_of_nonneg_of_ne_top h0 h1]

theorem ofBits_sixteenth : Ideal.ofBits .f32 1031798784#32 = ((1 / 16 : ℝ) : EReal) := by
  simp [Ideal.ofBits, Ideal.ieee, -EReal.coe_mul]; norm_num

theorem ofBits_64th : Ideal.ofBits .f32 1015021568#32 = ((1 / 64 : ℝ) : EReal) := by
  simp [Ideal.ofBits, Ideal.ieee, -EReal.coe_mul]; norm_num

theorem ofBits_64 : Ideal.ofBits .f32 1115684864#32 = ((64 : ℝ) : EReal) := by
  simp [Ideal.ofBits, Ideal.ieee, -EReal.coe_mul]; norm_num

/-- Dividing by 64 is multiplying by 1/64. -/
theorem div_64 (x : EReal) : Ideal.div x (Ideal.ofBits .f32 1115684864#32) = x * Ideal.ofBits .f32 1015021568#32 := by
  rw [ofBits_64, ofBits_64th, Ideal.div_coe (by norm_num)]

/-- The scale 1/16 on the queries is the scale on the scores. -/
theorem score_eq (q : Fin 1024 → EReal) (K : Fin 256 → Fin 1024 → EReal) (h : Fin 4) (m : Fin 256) :
    ∑ d : Fin 256, q ⟨h.val * 256 + d.val, lane_of h d⟩ * Ideal.ofBits FTy.f32 1031798784#32 * K m ⟨h.val * 256 + d.val, lane_of h d⟩
      = score q K h m := by
  unfold score
  rw [← sum_mul (by rw [ofBits_sixteenth]; exact_mod_cast (by norm_num : (0 : ℝ) ≤ 1 / 16))
    (by rw [ofBits_sixteenth]; exact EReal.coe_ne_top _)]
  exact Finset.sum_congr rfl fun d _ => mul_right_comm _ _ _

end Cert.Mix

end
-- ==== Proof.MixAttn.lean ====
/- The attention half of the mix kernel, row by row, over the stream `A + B` that the two mixers leave. -/
module

public import proofs.«01_k».proof.Proof.MixRows
public import proofs.«01_k».proof.Proof.Gen.Kernel3Ideal.Skeleton
public import Idealize.ShloMosaic.Lib.Pointwise

@[expose] public section

set_option maxRecDepth 16384

noncomputable section

open Idealize.ShloMosaic Idealize.ShloMosaic.TcCoe Idealize.SL.Sem

namespace Cert.Mix

open Cert.Kernel3Ideal Cert.Kernel3Ideal.Gen

/-- A 512-token block of the stream. -/
abbrev Blk := FVec Ideal S512x1024 .f32
abbrev Mem := FVec Ideal S1x256x256 .bf16

theorem first_apply (x : FVec Ideal S1x512x1024 .f32) (a : FVec Ideal S1x512x512 .f32) (w : FVec Ideal S512x1024 .bf16) (r : Fin 512)
    (c : Fin 1024) : k0_pay243 (F := Ideal) x a w (ix2 r c) = x (ix3 0 r c) + ∑ j, a (ix3 0 r j) * w (ix2 j c) := by
  pointwise [k0_pay243]

theorem sum_apply (A B : Blk) (r : Fin 512) (c : Fin 1024) : k0_pay245 (F := Ideal) A B (ix2 r c) = A (ix2 r c) + B (ix2 r c) := by
  pointwise [k0_pay245]

/-- The scaled queries of a block. -/
theorem query_apply (A B : Blk) (g : FVec Ideal S1x1024 .f32) (wq : FVec Ideal S1024x1024 .bf16) (r : Fin 512) (d : Fin 1024) :
    k0_pay246 (F := Ideal) A B g wq (ix2 r d)
      = query (fun q => A (ix2 r q) + B (ix2 r q)) (fun q => g (ix2 0 q)) (fun q j => wq (ix2 q j)) d * Ideal.ofBits FTy.f32 1031798784#32 := by
  pointwise [k0_pay246, k0_pay245]
  rfl

/-- One head's attention, from the scaled queries of its lanes. -/
def att (q : Fin 256 → EReal) (k v : Mem) (d : Fin 256) : EReal :=
  ∑ m, soft (fun m => ∑ e, q e * k (ix3 0 m e)) m * v (ix3 0 m d)

theorem head0 (A B : Blk) (g : FVec Ideal S1x1024 .f32) (wq : FVec Ideal S1024x1024 .bf16) (k v : Mem) (r : Fin 512) (d : Fin 256) :
    k0_pay247 (F := Ideal) A B g wq k v (ix2 r d)
      = att (fun e => k0_pay246 (F := Ideal) A B g wq (ix2 r ⟨(0 : Fin 4).val * 256 + e.val, lane_of 0 e⟩)) k v d := by
  unfold k0_pay247
  generalize k0_pay246 (F := Ideal) A B g wq = P
  pointwise
  rfl

theorem head1 (A B : Blk) (g : FVec Ideal S1x1024 .f32) (wq : FVec Ideal S1024x1024 .bf16) (k v : Mem) (r : Fin 512) (d : Fin 256) :
    k0_pay249 (F := Ideal) (k0_pay248 A B g wq) k v (ix2 r d)
      = att (fun e => k0_pay246 (F := Ideal) A B g wq (ix2 r ⟨(1 : Fin 4).val * 256 + e.val, lane_of 1 e⟩)) k v d := by
  unfold k0_pay248
  generalize k0_pay246 (F := Ideal) A B g wq = P
  pointwise [k0_pay249]
  rfl

theorem head2 (P : FVec Ideal S512x1024 .bf16) (k v : Mem) (r : Fin 512) (d : Fin 256) :
    k0_pay250 (F := Ideal) P k v (ix2 r d)
      = att (fun e => P (ix2 r ⟨(2 : Fin 4).val * 256 + e.val, lane_of 2 e⟩)) k v d := by
  pointwise [k0_pay250]
  rfl

/-- The last head is finished in the same stretch as the output product. -/
theorem last_apply (X : Blk) (o0 o1 o2 : FVec Ideal S512x256 .f32) (P : FVec Ideal S512x1024 .bf16) (k v : Mem)
    (wo : FVec Ideal S1024x1024 .bf16) (r : Fin 512) (c : Fin 1024) :
    k0_pay1 (F := Ideal) X o0 o1 o2 (k0_pay251 P k) (k0_pay252 (k0_pay251 P k)) v wo (ix3 0 r c)
      = X (ix2 r c) + (∑ d : Fin 256, o0 (ix2 r d) * wo (ix2 ⟨(0 : Fin 4).val * 256 + d.val, lane_of 0 d⟩ c)
        + ∑ d : Fin 256, o1 (ix2 r d) * wo (ix2 ⟨(1 : Fin 4).val * 256 + d.val, lane_of 1 d⟩ c)
        + ∑ d : Fin 256, o2 (ix2 r d) * wo (ix2 ⟨(2 : Fin 4).val * 256 + d.val, lane_of 2 d⟩ c)
        + ∑ d : Fin 256, att (fun e => P (ix2 r ⟨(3 : Fin 4).val * 256 + e.val, lane_of 3 e⟩)) k v d
            * wo (ix2 ⟨(3 : Fin 4).val * 256 + d.val, lane_of 3 d⟩ c)) := by
  pointwise [k0_pay1, k0_pay251, k0_pay252]
  rw [Fin.sum_univ_tiles 4 256 rfl, Fin.sum_univ_four]
  refine congrArg _ (congrArg₂ (· + ·) (congrArg₂ (· + ·) (congrArg₂ (· + ·) ?_ ?_) ?_) ?_) <;>
    refine Finset.sum_congr rfl fun d _ => congrArg₂ (· * ·) ?_ (congrArg (fun z => wo (ix2 z c)) (Fin.ext (by simp)))
  · rw [dif_pos (by simp only [Fin.val_zero]; omega)]
    exact congrArg (fun z => o0 (ix2 r z)) (Fin.ext (by simp only [Fin.val_zero]; omega))
  · rw [dif_neg (by simp only [Fin.val_one]; omega), dif_pos (by simp only [Fin.val_one]; omega)]
    exact congrArg (fun z => o1 (ix2 r z)) (Fin.ext (by simp only [Fin.val_one]; omega))
  · rw [dif_neg (by simp only [Fin.val_two]; omega), dif_neg (by simp only [Fin.val_two]; omega), dif_pos (by simp only [Fin.val_two]; omega)]
    exact congrArg (fun z => o2 (ix2 r z)) (Fin.ext (by simp only [Fin.val_two]; omega))
  · have h3 : (3 : Fin 4).val = 3 := rfl
    rw [dif_neg (by simp only [h3]; omega), dif_neg (by simp only [h3]; omega), dif_neg (by simp only [h3]; omega)]
    refine Eq.trans ?_ (rfl : att (fun e => P (ix2 r ⟨768 + e.val, by omega⟩)) k v d = _)
    refine Finset.sum_congr rfl fun m _ => congrArg₂ (· * ·) rfl ?_
    exact congrArg (fun z => v (ix3 0 m z)) (Fin.ext (by simp only [h3]; omega))

/-- A head's attention from the scaled queries is the softmax of the scores, times the values. -/
theorem att_eq (q : Fin 1024 → EReal) (K V : Fin 256 → Fin 1024 → EReal) (k v : Mem) (h : Fin 4) (d : Fin 256)
    (hk : ∀ m e, k (ix3 0 m e) = K m ⟨h.val * 256 + e.val, lane_of h e⟩) (hv : ∀ m e, v (ix3 0 m e) = V m ⟨h.val * 256 + e.val, lane_of h e⟩) :
    att (fun e => q ⟨h.val * 256 + e.val, lane_of h e⟩ * Ideal.ofBits FTy.f32 1031798784#32) k v d
      = ∑ m, soft (score q K h) m * V m ⟨h.val * 256 + d.val, lane_of h d⟩ := by
  have e : (fun m => ∑ e : Fin 256, q ⟨h.val * 256 + e.val, lane_of h e⟩ * Ideal.ofBits FTy.f32 1031798784#32 * k (ix3 0 m e))
      = score q K h := by
    funext m
    simp only [hk]
    exact score_eq q K h m
  unfold att
  rw [e]
  simp only [hv]

/-- What a grid point stores: each token of the stream after the attention over the memory. -/
theorem stored_apply (A B : Blk) (g : FVec Ideal S1x1024 .f32) (wq wo : FVec Ideal S1024x1024 .bf16) (k0 k1 k2 k3 v0 v1 v2 v3 : Mem)
    (K V : Fin 256 → Fin 1024 → EReal)
    (hk0 : ∀ m e, k0 (ix3 0 m e) = K m ⟨(0 : Fin 4).val * 256 + e.val, lane_of 0 e⟩)
    (hk1 : ∀ m e, k1 (ix3 0 m e) = K m ⟨(1 : Fin 4).val * 256 + e.val, lane_of 1 e⟩)
    (hk2 : ∀ m e, k2 (ix3 0 m e) = K m ⟨(2 : Fin 4).val * 256 + e.val, lane_of 2 e⟩)
    (hk3 : ∀ m e, k3 (ix3 0 m e) = K m ⟨(3 : Fin 4).val * 256 + e.val, lane_of 3 e⟩)
    (hv0 : ∀ m e, v0 (ix3 0 m e) = V m ⟨(0 : Fin 4).val * 256 + e.val, lane_of 0 e⟩)
    (hv1 : ∀ m e, v1 (ix3 0 m e) = V m ⟨(1 : Fin 4).val * 256 + e.val, lane_of 1 e⟩)
    (hv2 : ∀ m e, v2 (ix3 0 m e) = V m ⟨(2 : Fin 4).val * 256 + e.val, lane_of 2 e⟩)
    (hv3 : ∀ m e, v3 (ix3 0 m e) = V m ⟨(3 : Fin 4).val * 256 + e.val, lane_of 3 e⟩) (r : Fin 512) (c : Fin 1024) :
    k0_pay1 (F := Ideal) (k0_pay245 A B) (k0_pay247 A B g wq k0 v0) (k0_pay249 (k0_pay248 A B g wq) k1 v1)
        (k0_pay250 (k0_pay246 A B g wq) k2 v2) (k0_pay251 (k0_pay246 A B g wq) k3) (k0_pay252 (k0_pay251 (k0_pay246 A B g wq) k3)) v3 wo
        (ix3 0 r c)
      = attend (fun q => A (ix2 r q) + B (ix2 r q)) (fun q => g (ix2 0 q)) (fun q j => wq (ix2 q j)) K V (fun q j => wo (ix2 q j)) c := by
  rw [last_apply, sum_apply]
  unfold attend
  rw [Fin.sum_univ_four]
  simp only [head0, head1, head2, query_apply]
  simp only [att_eq _ K V k0 v0 0 _ hk0 hv0, att_eq _ K V k1 v1 1 _ hk1 hv1, att_eq _ K V k2 v2 2 _ hk2 hv2, att_eq _ K V k3 v3 3 _ hk3 hv3]

end Cert.Mix

end
-- ==== Proof.MixRef.lean ====
/- The mix call's reference, row by row: the plain read-out of the recurrence, the stream after the two mixers, and the
   attention over the memory, in the words of `Proof/MixRead.lean` and `Proof/MixRows.lean`. -/
module

public import proofs.«01_k».proof.Proof.MixRead
public import proofs.«01_k».proof.Proof.MixRows
public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem

namespace Cert.Mix

open Cert.Reference3Ideal Cert.Reference3Ideal.Read

theorem flat_of (a : Fin 8) (n : Fin 64) : a.val * 64 + n.val < 512 := by omega
theorem pair_of' (a : Fin 8) : a.val / 2 < 4 := by omega
theorem side_of (a : Fin 8) (d : Fin 64) : a.val % 2 * 64 + d.val < 128 := by omega
theorem low_lt (j : Fin 512) : j.val < 1024 := by omega
theorem high_lt (j : Fin 512) : 512 + j.val < 1024 := by omega
theorem chunk_of (s : Fin 8192) : s.val / 64 < 128 := by omega

/-- The reference's read-out before the norm. -/
theorem ref_head (h : FVec Ideal S2x128x4x64x128 .bf16) (q : FVec Ideal S2x8192x512 .bf16) (y0 : FVec Ideal S2x8192x512 .f32)
    (b : Fin 2) (s : Fin 8192) (a : Fin 8) (d : Fin 64) :
    val_main_v10 (F := Ideal) h q y0 (ix4 b s a d)
      = head (fun n => q (ix3 b s ⟨a.val * 64 + n.val, flat_of a n⟩))
          (fun n d => h (ix5 b ⟨s.val / 64, chunk_of s⟩ ⟨a.val / 2, pair_of' a⟩ n ⟨a.val % 2 * 64 + d.val, side_of a d⟩))
          (fun d => y0 (ix3 b s ⟨a.val * 64 + d.val, flat_of a d⟩)) d := by
  pointwise [val_main_v10, val_main_v9, val_main_v8, val_main_v7, val_main_v6, val_main_v5, val_main_v4, val_main_v3,
    val_main_v2, val_main_v1, val_main_v0]
  exact congrArg (· + _) (Finset.sum_congr rfl fun n _ => mul_comm _ _)

theorem ref_norm (h : FVec Ideal S2x128x4x64x128 .bf16) (q : FVec Ideal S2x8192x512 .bf16) (y0 : FVec Ideal S2x8192x512 .f32)
    (b : Fin 2) (s : Fin 8192) (a : Fin 8) (d : Fin 64) :
    val_main_v28 (F := Ideal) h q y0 (ix4 b s a d) = norm (fun d => val_main_v10 (F := Ideal) h q y0 (ix4 b s a d)) d := by
  unfold val_main_v28 val_main_v27 val_main_v26 val_main_v25 val_main_v23 val_main_v22 val_main_v21 val_main_v19 val_main_v18
    val_main_v17 val_main_v16 val_main_v15 val_main_v14 val_main_v12 val_main_v11
  generalize val_main_v10 (F := Ideal) h q y0 = M
  pointwise [val_main_v24, val_main_v20, val_main_v13, val_main_cst, val_main_cst_0, val_main_cst_1, val_main_cst_2, val_main_cst_3]
  simp only [div_64]
  rfl

theorem ref_readout (h : FVec Ideal S2x128x4x64x128 .bf16) (q : FVec Ideal S2x8192x512 .bf16) (y0 g bonus : FVec Ideal S2x8192x512 .f32)
    (w bb : FVec Ideal S512 .f32) (b : Fin 2) (s : Fin 8192) (j : Fin 512) :
    val_main_v37 (F := Ideal) h q y0 g bonus w bb (ix3 b s j)
      = readout (fun k => q (ix3 b s k)) (fun p n k => h (ix5 b ⟨s.val / 64, chunk_of s⟩ p n k)) (fun k => y0 (ix3 b s k))
          (fun k => w (ix1 k)) (fun k => bb (ix1 k)) (fun k => bonus (ix3 b s k)) (fun k => g (ix3 b s k)) j := by
  have hn := fun a d => ref_norm h q y0 b s a d
  have hh := fun a d => ref_head h q y0 b s a d
  unfold val_main_v37 val_main_v36 val_main_v35 val_main_v32 val_main_v29
  generalize val_main_v28 (F := Ideal) h q y0 = N at hn
  pointwise [val_main_v30, val_main_v31, val_main_v33, val_main_v34]
  rw [hn]
  simp only [hh]
  unfold readout
  have e1 : (⟨(⟨j.val / 64, by omega⟩ : Fin 8).val / 2, pair_of' _⟩ : Fin 4) = ⟨j.val / 128, pair_lt j⟩ := Fin.ext (by simp only []; omega)
  have e2 : ∀ d : Fin 64, (⟨(⟨j.val / 64, by omega⟩ : Fin 8).val % 2 * 64 + d.val, side_of _ d⟩ : Fin 128)
      = ⟨j.val % 128 / 64 * 64 + d.val, lane_lt' j d⟩ := fun d => Fin.ext (by simp only []; omega)
  simp only [e1, e2]

/-- The reference's stream after the two mixers. -/
theorem ref_stream (x : FVec Ideal S2x8192x1024 .f32) (o : FVec Ideal S2x8192x512 .f32) (h : FVec Ideal S2x128x4x64x128 .bf16)
    (q : FVec Ideal S2x8192x512 .bf16) (y0 g bonus : FVec Ideal S2x8192x512 .f32) (w bb : FVec Ideal S512 .f32)
    (wout : FVec Ideal S1024x1024 .f32) (b : Fin 2) (s : Fin 8192) (c : Fin 1024) :
    val_main_v40 (F := Ideal) x o h q y0 g bonus w bb wout (ix3 b s c)
      = stream (fun k => x (ix3 b s k)) (fun j => o (ix3 b s j)) (fun j => val_main_v37 (F := Ideal) h q y0 g bonus w bb (ix3 b s j))
          (fun j c => wout (ix2 ⟨j.val, low_lt j⟩ c)) (fun j c => wout (ix2 ⟨512 + j.val, high_lt j⟩ c)) c := by
  unfold val_main_v40 val_main_v39 val_main_v38
  generalize val_main_v37 (F := Ideal) h q y0 g bonus w bb = N
  pointwise
  exact (add_assoc _ _ _).symm

/-- The reference's queries. -/
theorem ref_query (x : FVec Ideal S2x8192x1024 .f32) (o : FVec Ideal S2x8192x512 .f32) (h : FVec Ideal S2x128x4x64x128 .bf16)
    (q : FVec Ideal S2x8192x512 .bf16) (y0 g bonus : FVec Ideal S2x8192x512 .f32) (w bb : FVec Ideal S512 .f32)
    (wout : FVec Ideal S1024x1024 .f32) (gx : FVec Ideal S1024 .f32) (wq : FVec Ideal S1024x1024 .f32)
    (b : Fin 2) (s : Fin 8192) (d : Fin 1024) :
    val_main_v54 (F := Ideal) x o h q y0 g bonus w bb wout gx wq (ix3 b s d)
      = query (fun k => val_main_v40 (F := Ideal) x o h q y0 g bonus w bb wout (ix3 b s k)) (fun k => gx (ix1 k)) (fun k j => wq (ix2 k j)) d := by
  unfold val_main_v54 val_main_v53 val_main_v50 val_main_v49 val_main_v48 val_main_v47 val_main_v45 val_main_v43 val_main_v42 val_main_v41
  generalize val_main_v40 (F := Ideal) x o h q y0 g bonus w bb wout = M
  pointwise [val_main_v52, val_main_v51, val_main_v46, val_main_v44, val_main_cst_4, val_main_cst_5, val_main_cst_6]
  rfl

/-- The reference's scores. -/
theorem ref_score (x : FVec Ideal S2x8192x1024 .f32) (o : FVec Ideal S2x8192x512 .f32) (h : FVec Ideal S2x128x4x64x128 .bf16)
    (q : FVec Ideal S2x8192x512 .bf16) (y0 g bonus : FVec Ideal S2x8192x512 .f32) (w bb : FVec Ideal S512 .f32)
    (wout : FVec Ideal S1024x1024 .f32) (gx : FVec Ideal S1024 .f32) (wq : FVec Ideal S1024x1024 .f32)
    (mk : FVec Ideal S2x256x1024 .bf16) (b : Fin 2) (a : Fin 4) (s : Fin 8192) (m : Fin 256) :
    val_main_v62 (F := Ideal) x o h q y0 g bonus w bb wout gx wq mk (ix4 b a s m)
      = score (fun d => val_main_v54 (F := Ideal) x o h q y0 g bonus w bb wout gx wq (ix3 b s d)) (fun m d => mk (ix3 b m d)) a m := by
  unfold val_main_v62 val_main_v60 val_main_v55
  generalize val_main_v54 (F := Ideal) x o h q y0 g bonus w bb wout gx wq = M
  pointwise [val_main_v61, val_main_v57, val_main_v56, val_main_cst_7]
  rfl

/-- A greatest element over the last axis, from minus infinity. -/
theorem reduce_top (h : S2x4x8192x256.ReducesTo [3] S2x4x8192) (hu : 0 < S_.numel) (M : FVec Ideal S2x4x8192x256 .f32) (b : Fin 2) (a : Fin 4) (s : Fin 8192) :
    (Host.reduce FloatOps.maximumf M (constant S_ .f32 0xFF800000#32) h hu : FVec Ideal S2x4x8192 .f32) (ix3 b a s)
      = top (fun m => M (ix4 b a s m)) := by
  unfold top
  rw [Host.reduce_eq_fold]
  pointwise

/-- The reference's greatest score. -/
theorem ref_top (x : FVec Ideal S2x8192x1024 .f32) (o : FVec Ideal S2x8192x512 .f32) (h : FVec Ideal S2x128x4x64x128 .bf16)
    (q : FVec Ideal S2x8192x512 .bf16) (y0 g bonus : FVec Ideal S2x8192x512 .f32) (w bb : FVec Ideal S512 .f32)
    (wout : FVec Ideal S1024x1024 .f32) (gx : FVec Ideal S1024 .f32) (wq : FVec Ideal S1024x1024 .f32)
    (mk : FVec Ideal S2x256x1024 .bf16) (b : Fin 2) (a : Fin 4) (s : Fin 8192) :
    val_main_v63 (F := Ideal) x o h q y0 g bonus w bb wout gx wq mk (ix3 b a s)
      = top (fun m => val_main_v62 (F := Ideal) x o h q y0 g bonus w bb wout gx wq mk (ix4 b a s m)) := by
  unfold val_main_v63 val_main_cst_8
  generalize val_main_v62 (F := Ideal) x o h q y0 g bonus w bb wout gx wq mk = M
  exact reduce_top _ _ M b a s

/-- The reference's greatest score, after it is compared with minus infinity once more. -/
theorem ref_max (x : FVec Ideal S2x8192x1024 .f32) (o : FVec Ideal S2x8192x512 .f32) (h : FVec Ideal S2x128x4x64x128 .bf16)
    (q : FVec Ideal S2x8192x512 .bf16) (y0 g bonus : FVec Ideal S2x8192x512 .f32) (w bb : FVec Ideal S512 .f32)
    (wout : FVec Ideal S1024x1024 .f32) (gx : FVec Ideal S1024 .f32) (wq : FVec Ideal S1024x1024 .f32)
    (mk : FVec Ideal S2x256x1024 .bf16) (b : Fin 2) (a : Fin 4) (s : Fin 8192) :
    val_main_v65 (F := Ideal) x o h q y0 g bonus w bb wout gx wq mk (ix3 b a s)
      = top (fun m => val_main_v62 (F := Ideal) x o h q y0 g bonus w bb wout gx wq mk (ix4 b a s m)) := by
  have ht := ref_top x o h q y0 g bonus w bb wout gx wq mk b a s
  have e := max_top (fun m => val_main_v62 (F := Ideal) x o h q y0 g bonus w bb wout gx wq mk (ix4 b a s m))
  rw [← ht] at e ⊢
  unfold val_main_v65
  clear ht
  generalize val_main_v63 (F := Ideal) x o h q y0 g bonus w bb wout gx wq mk = T at e ⊢
  have hv : val_main_v64 (F := Ideal) (ix3 b a s) = Ideal.ofBits FTy.f32 4286578688#32 := by
    pointwise [val_main_v64, val_main_cst_9]
  refine Eq.trans ?_ e
  rw [← hv]
  exact (maximumf_apply _ _ _).trans (by rw [Ideal.maximumf_eq_max])

/-- The reference's exponentials. -/
theorem ref_exp (x : FVec Ideal S2x8192x1024 .f32) (o : FVec Ideal S2x8192x512 .f32) (h : FVec Ideal S2x128x4x64x128 .bf16)
    (q : FVec Ideal S2x8192x512 .bf16) (y0 g bonus : FVec Ideal S2x8192x512 .f32) (w bb : FVec Ideal S512 .f32)
    (wout : FVec Ideal S1024x1024 .f32) (gx : FVec Ideal S1024 .f32) (wq : FVec Ideal S1024x1024 .f32)
    (mk : FVec Ideal S2x256x1024 .bf16) (b : Fin 2) (a : Fin 4) (s : Fin 8192) (m : Fin 256) :
    val_main_v69 (F := Ideal) x o h q y0 g bonus w bb wout gx wq mk (ix4 b a s m)
      = Ideal.exp (val_main_v62 (F := Ideal) x o h q y0 g bonus w bb wout gx wq mk (ix4 b a s m) - val_main_v65 (F := Ideal) x o h q y0 g bonus w bb wout gx wq mk (ix3 b a s)) := by
  unfold val_main_v69 val_main_v68 val_main_v67 val_main_v66
  generalize val_main_v65 (F := Ideal) x o h q y0 g bonus w bb wout gx wq mk = T
  generalize val_main_v62 (F := Ideal) x o h q y0 g bonus w bb wout gx wq mk = M
  pointwise

/-- The reference's softmax. -/
theorem ref_soft (x : FVec Ideal S2x8192x1024 .f32) (o : FVec Ideal S2x8192x512 .f32) (h : FVec Ideal S2x128x4x64x128 .bf16)
    (q : FVec Ideal S2x8192x512 .bf16) (y0 g bonus : FVec Ideal S2x8192x512 .f32) (w bb : FVec Ideal S512 .f32)
    (wout : FVec Ideal S1024x1024 .f32) (gx : FVec Ideal S1024 .f32) (wq : FVec Ideal S1024x1024 .f32)
    (mk : FVec Ideal S2x256x1024 .bf16) (b : Fin 2) (a : Fin 4) (s : Fin 8192) (m : Fin 256) :
    val_main_v73 (F := Ideal) x o h q y0 g bonus w bb wout gx wq mk (ix4 b a s m)
      = soft (fun m => val_main_v62 (F := Ideal) x o h q y0 g bonus w bb wout gx wq mk (ix4 b a s m)) m := by
  have he : ∀ m, val_main_v69 (F := Ideal) x o h q y0 g bonus w bb wout gx wq mk (ix4 b a s m)
      = Ideal.exp (val_main_v62 (F := Ideal) x o h q y0 g bonus w bb wout gx wq mk (ix4 b a s m) - top (fun m => val_main_v62 (F := Ideal) x o h q y0 g bonus w bb wout gx wq mk (ix4 b a s m))) := fun m => by rw [ref_exp, ref_max]
  unfold val_main_v73 val_main_v72 val_main_v71 val_main_v70
  unfold soft
  generalize top (fun m => val_main_v62 (F := Ideal) x o h q y0 g bonus w bb wout gx wq mk (ix4 b a s m)) = t at he ⊢
  generalize val_main_v62 (F := Ideal) x o h q y0 g bonus w bb wout gx wq mk = M at he ⊢
  generalize val_main_v69 (F := Ideal) x o h q y0 g bonus w bb wout gx wq mk = E at he ⊢
  simp only [← he]
  pointwise [val_main_cst_10]

/-- The reference's result, row by row. -/
theorem ref_apply (x : FVec Ideal S2x8192x1024 .f32) (o : FVec Ideal S2x8192x512 .f32) (h : FVec Ideal S2x128x4x64x128 .bf16)
    (q : FVec Ideal S2x8192x512 .bf16) (y0 g bonus : FVec Ideal S2x8192x512 .f32) (w bb : FVec Ideal S512 .f32)
    (wout : FVec Ideal S1024x1024 .f32) (gx : FVec Ideal S1024 .f32) (wq : FVec Ideal S1024x1024 .f32)
    (mk mv : FVec Ideal S2x256x1024 .bf16) (wo : FVec Ideal S1024x1024 .f32) (b : Fin 2) (s : Fin 8192) (c : Fin 1024) :
    val_main_v78 (F := Ideal) x o h q y0 g bonus w bb wout gx wq mk mv wo (ix3 b s c)
      = attend (fun k => val_main_v40 (F := Ideal) x o h q y0 g bonus w bb wout (ix3 b s k)) (fun k => gx (ix1 k)) (fun k j => wq (ix2 k j))
          (fun m d => mk (ix3 b m d)) (fun m d => mv (ix3 b m d)) (fun k j => wo (ix2 k j)) c := by
  have hq := fun d => ref_query x o h q y0 g bonus w bb wout gx wq b s d
  have hs := fun a m => ref_score x o h q y0 g bonus w bb wout gx wq mk b a s m
  have hp := fun a m => ref_soft x o h q y0 g bonus w bb wout gx wq mk b a s m
  simp only [hq] at hs
  simp only [hs] at hp
  unfold val_main_v78 val_main_v77 val_main_v76 val_main_v75 val_main_v74
  generalize val_main_v73 (F := Ideal) x o h q y0 g bonus w bb wout gx wq mk = P at hp
  generalize val_main_v40 (F := Ideal) x o h q y0 g bonus w bb wout = M at hp
  pointwise [val_main_v59, val_main_v58]
  rw [Fin.sum_univ_tiles 4 256 rfl]
  unfold attend
  refine congrArg (_ + ·) (Finset.sum_congr rfl fun a _ => Finset.sum_congr rfl fun d _ => congrArg (· * _)
    (Finset.sum_congr rfl fun m _ => ?_))
  have ea : (⟨(a.val * 256 + d.val) / 256, by omega⟩ : Fin 4) = a := Fin.ext (by simp only []; omega)
  refine (mul_comm _ _).trans (congrArg₂ (· * ·) ?_ rfl)
  refine Eq.trans (congrArg (fun z => P (ix4 b z s m)) ea) ?_
  exact hp a m

end Cert.Mix

end
-- ==== Proof.Mix.lean ====
/- The mix call's result array: every grid point's block is, token by token, the reference's result. -/
module

public import proofs.«01_k».proof.Proof.MixRead
public import proofs.«01_k».proof.Proof.MixAttn
public import proofs.«01_k».proof.Proof.MixRef
public import proofs.«01_k».proof.Proof.Gen.Kernel3Ideal.Value
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Mix

open Cert.Kernel3Ideal Cert.Kernel3Ideal.Gen

/-- Lanes `o` to `o + 256` of the memory, as the kernel loads them. -/
theorem lanes_0 (x : FVec Ideal S1x256x1024 .bf16) (m e : Fin 256) :
    (View.ld (Val := Elt Ideal) (S := S1x256x1024) (e' := .bf16) x r0_73 : FVec Ideal S1x256x256 .bf16) (ix3 0 m e)
      = x (ix3 0 m ⟨(0 : Fin 4).val * 256 + e.val, lane_of 0 e⟩) := by
  pointwise
theorem lanes_1 (x : FVec Ideal S1x256x1024 .bf16) (m e : Fin 256) :
    (View.ld (Val := Elt Ideal) (S := S1x256x1024) (e' := .bf16) x r0_74 : FVec Ideal S1x256x256 .bf16) (ix3 0 m e)
      = x (ix3 0 m ⟨(1 : Fin 4).val * 256 + e.val, lane_of 1 e⟩) := by
  pointwise
theorem lanes_2 (x : FVec Ideal S1x256x1024 .bf16) (m e : Fin 256) :
    (View.ld (Val := Elt Ideal) (S := S1x256x1024) (e' := .bf16) x r0_75 : FVec Ideal S1x256x256 .bf16) (ix3 0 m e)
      = x (ix3 0 m ⟨(2 : Fin 4).val * 256 + e.val, lane_of 2 e⟩) := by
  pointwise
theorem lanes_3 (x : FVec Ideal S1x256x1024 .bf16) (m e : Fin 256) :
    (View.ld (Val := Elt Ideal) (S := S1x256x1024) (e' := .bf16) x r0_76 : FVec Ideal S1x256x256 .bf16) (ix3 0 m e)
      = x (ix3 0 m ⟨(3 : Fin 4).val * 256 + e.val, lane_of 3 e⟩) := by
  pointwise

theorem zero2 : (![0, 0] : Fin 2 → ℕ) = fun _ => 0 := by funext a; fin_cases a <;> rfl
theorem zero3 : (![0, 0, 0] : Fin 3 → ℕ) = fun _ => 0 := by funext a; fin_cases a <;> rfl

/-- What the grid point adds to the residual for the first mixer. -/
theorem first_out (x0 : FVec Ideal S1x512x1024 .f32) (x1 : FVec Ideal S1x512x512 .f32) (x10 : FVec Ideal S512x1024 .bf16) (r : Fin 512) (q : Fin 1024) :
    k0_pay243 (F := Ideal) (View.ld x0 r0_68) (View.ld x1 r0_69) (View.ld x10 r0_70) (ix2 r q)
      = x0 (ix3 0 r q) + ∑ j, x1 (ix3 0 r j) * x10 (ix2 j q) := by
  rw [first_apply, View.ld_unit_zero zero3, View.ld_unit_zero zero3, View.ld_unit_zero zero2]

/-- What a grid point leaves in its block: each token's stream after the attention over the memory. -/
theorem out_apply (x0 : FVec Ideal S1x512x1024 .f32) (x1 : FVec Ideal S1x512x512 .f32) (x2 : FVec Ideal S1x8x4x64x128 .bf16)
    (x3 : FVec Ideal S1x512x512 .bf16) (x4 x5 x6 : FVec Ideal S1x512x512 .f32) (x7 x8 : FVec Ideal S1x512 .f32) (x9 : FVec Ideal S128x128 .bf16)
    (x10 x11 : FVec Ideal S512x1024 .bf16) (x12 : FVec Ideal S1x1024 .f32) (x13 : FVec Ideal S1024x1024 .bf16)
    (x14 x15 : FVec Ideal S1x256x1024 .bf16) (x16 : FVec Ideal S1024x1024 .bf16) (r : Fin 512) (c : Fin 1024) :
    (out0_17 (F := Ideal) x0 x1 x2 x3 x4 x5 x6 x7 x8 x9 x10 x11 x12 x13 x14 x15 x16 : FVec Ideal S1x512x1024 .f32) (ix3 0 r c)
      = attend (stream (fun k => x0 (ix3 0 r k)) (fun j => x1 (ix3 0 r j)) (rowOut x2 x3 x4 x5 x6 x7 x8 r)
            (fun j c => x10 (ix2 j c)) (fun j c => x11 (ix2 j c)))
          (fun k => x12 (ix2 0 k)) (fun k j => x13 (ix2 k j)) (fun m d => x14 (ix3 0 m d)) (fun m d => x15 (ix3 0 m d))
          (fun k j => x16 (ix2 k j)) c := by
  unfold out0_17
  rw [View.canon_unit_zero zero3]
  unfold k0_pay321 k0_pay320
  have h0 : ∀ q, k0_pay318 (F := Ideal) x0 x1 x2 x3 x4 x5 x6 x7 x8 x9 x10 x11 x12 x13 x14 x15 x16 (ix2 r q)
      = x0 (ix3 0 r q) + ∑ j, x1 (ix3 0 r j) * x10 (ix2 j q) := fun q => first_out x0 x1 x10 r q
  have h1 := fun q => readout_dot x0 x1 x2 x3 x4 x5 x6 x7 x8 x9 x10 x11 x12 x13 x14 x15 x16 r q
  generalize k0_pay318 (F := Ideal) x0 x1 x2 x3 x4 x5 x6 x7 x8 x9 x10 x11 x12 x13 x14 x15 x16 = A at h0
  generalize k0_pay319 (F := Ideal) x0 x1 x2 x3 x4 x5 x6 x7 x8 x9 x10 x11 x12 x13 x14 x15 x16 = B at h1
  rw [View.ld_unit_zero zero2, View.ld_unit_zero zero2, View.ld_unit_zero zero2]
  refine (stored_apply A B _ _ _ _ _ _ _ _ _ _ _ (fun m d => x14 (ix3 0 m d)) (fun m d => x15 (ix3 0 m d))
    (lanes_0 x14) (lanes_1 x14) (lanes_2 x14) (lanes_3 x14) (lanes_0 x15) (lanes_1 x15) (lanes_2 x15) (lanes_3 x15) r c).trans ?_
  have es : (fun q => A (ix2 r q) + B (ix2 r q)) = stream (fun k => x0 (ix3 0 r k)) (fun j => x1 (ix3 0 r j)) (rowOut x2 x3 x4 x5 x6 x7 x8 r)
            (fun j c => x10 (ix2 j c)) (fun j c => x11 (ix2 j c)) := by
    funext q; rw [h0, h1]; rfl
  rw [es]

variable (m : (ℓ : Loc nD τ sig) → Buf (Elt Ideal) ℓ)

/-- Every window's block index at point `t`: batch row `t / 16`, and within it the 512 tokens of tile `t % 16`; a weight's
    block is the whole array, the memory's block is the batch row's. -/
theorem idx : ∀ t : Fin cfg0.N, win0_0.index t = ![t.val / 16, t.val % 16, 0]
    ∧ win0_1.index t = ![t.val / 16, t.val % 16, 0]
    ∧ win0_2.index t = ![t.val / 16, t.val % 16, 0, 0, 0]
    ∧ win0_3.index t = ![t.val / 16, t.val % 16, 0]
    ∧ win0_4.index t = ![t.val / 16, t.val % 16, 0]
    ∧ win0_5.index t = ![t.val / 16, t.val % 16, 0]
    ∧ win0_6.index t = ![t.val / 16, t.val % 16, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![t.val / 16, 0, 0]
    ∧ win0_15.index t = ![t.val / 16, 0, 0]
    ∧ win0_16.index t = ![0, 0]
    ∧ win0_17.index t = ![t.val / 16, t.val % 16, 0] :=
  (by decide +kernel : ∀ t : Fin grid0.N, win0_0.index t = ![t.val / 16, t.val % 16, 0]
    ∧ win0_1.index t = ![t.val / 16, t.val % 16, 0]
    ∧ win0_2.index t = ![t.val / 16, t.val % 16, 0, 0, 0]
    ∧ win0_3.index t = ![t.val / 16, t.val % 16, 0]
    ∧ win0_4.index t = ![t.val / 16, t.val % 16, 0]
    ∧ win0_5.index t = ![t.val / 16, t.val % 16, 0]
    ∧ win0_6.index t = ![t.val / 16, t.val % 16, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![t.val / 16, 0, 0]
    ∧ win0_15.index t = ![t.val / 16, 0, 0]
    ∧ win0_16.index t = ![0, 0]
    ∧ win0_17.index t = ![t.val / 16, t.val % 16, 0])

/-- The kernel's result array after the run is the reference's term over the kernel's own arguments. -/
theorem final (c : Dev nD) : (dats m 0 c).arrAt 17 cfg0.N
    = Cert.Reference3Ideal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 17 _ (by decide +kernel) fun t _ y => ?_
  blk_simp
  rw [after0_17]
  obtain ⟨a, r, k, rfl⟩ : ∃ (a : Fin 1) (r : Fin 512) (k : Fin 1024), y = ix3 a r k := ⟨y 0, y 1, y 2, eq_ix3 y⟩
  obtain rfl : a = 0 := Subsingleton.elim _ _
  have ht : t.val < 32 := N_0 ▸ t.isLt
  have hw : ((cfg0.win 17).blk t).view.emb (ix3 (0 : Fin 1) r k) = ix3 (⟨t.val / 16, by omega⟩ : Fin 2) (⟨t.val % 16 * 512 + r.val, by omega⟩ : Fin 8192) k := by
    blk_ext [iblk, V, idx t]
  rw [hw]
  refine (out_apply _ _ _ _ _ _ _ _ _ _ _ _ _ _ _ _ _ r k).trans (Eq.trans ?_ (ref_apply _ _ _ _ _ _ _ _ _ _ _ _ _ _ _ _ _ k).symm)
  simp only [ref_stream, ref_readout, rowOut]
  have h0 : (fun k => (iblk m c 0 t : FVec Ideal S1x512x1024 .f32) (ix3 0 r k)) = fun k => m ((c : Thread nD τ).loc main_arg0) (ix3 ⟨t.val / 16, by omega⟩ ⟨t.val % 16 * 512 + r.val, by omega⟩ k) := by
    funext k; blk_point [iblk, V, idx t]
  have h1 : (fun k => (iblk m c 1 t : FVec Ideal S1x512x512 .f32) (ix3 0 r k)) = fun k => m ((c : Thread nD τ).loc main_arg1) (ix3 ⟨t.val / 16, by omega⟩ ⟨t.val % 16 * 512 + r.val, by omega⟩ k) := by
    funext k; blk_point [iblk, V, idx t]
  have h2 : (fun p n k => (iblk m c 2 t : FVec Ideal S1x8x4x64x128 .bf16) (ix5 0 ⟨r.val / 64, by omega⟩ p n k)) = fun p n k => m ((c : Thread nD τ).loc main_arg2) (ix5 ⟨t.val / 16, by omega⟩ ⟨(t.val % 16 * 512 + r.val) / 64, by omega⟩ p n k) := by
    funext p n k; blk_point [iblk, V, idx t]
  have h3 : (fun k => (iblk m c 3 t : FVec Ideal S1x512x512 .bf16) (ix3 0 r k)) = fun k => m ((c : Thread nD τ).loc main_arg3) (ix3 ⟨t.val / 16, by omega⟩ ⟨t.val % 16 * 512 + r.val, by omega⟩ k) := by
    funext k; blk_point [iblk, V, idx t]
  have h4 : (fun k => (iblk m c 4 t : FVec Ideal S1x512x512 .f32) (ix3 0 r k)) = fun k => m ((c : Thread nD τ).loc main_arg4) (ix3 ⟨t.val / 16, by omega⟩ ⟨t.val % 16 * 512 + r.val, by omega⟩ k) := by
    funext k; blk_point [iblk, V, idx t]
  have h5 : (fun k => (iblk m c 5 t : FVec Ideal S1x512x512 .f32) (ix3 0 r k)) = fun k => m ((c : Thread nD τ).loc main_arg5) (ix3 ⟨t.val / 16, by omega⟩ ⟨t.val % 16 * 512 + r.val, by omega⟩ k) := by
    funext k; blk_point [iblk, V, idx t]
  have h6 : (fun k => (iblk m c 6 t : FVec Ideal S1x512x512 .f32) (ix3 0 r k)) = fun k => m ((c : Thread nD τ).loc main_arg6) (ix3 ⟨t.val / 16, by omega⟩ ⟨t.val % 16 * 512 + r.val, by omega⟩ k) := by
    funext k; blk_point [iblk, V, idx t]
  have h7 : (fun k => (iblk m c 7 t : FVec Ideal S1x512 .f32) (ix2 0 k)) = fun k => m ((c : Thread nD τ).loc main_arg7) (ix1 k) := by
    funext k; blk_point [iblk, V, idx t]
  have h8 : (fun k => (iblk m c 8 t : FVec Ideal S1x512 .f32) (ix2 0 k)) = fun k => m ((c : Thread nD τ).loc main_arg8) (ix1 k) := by
    funext k; blk_point [iblk, V, idx t]
  have h10 : (fun j k => (iblk m c 10 t : FVec Ideal S512x1024 .bf16) (ix2 j k)) = fun j k => m ((c : Thread nD τ).loc main_arg9) (ix2 ⟨j.val, low_lt j⟩ k) := by
    funext j k; blk_point [iblk, V, idx t]
  have h11 : (fun j k => (iblk m c 11 t : FVec Ideal S512x1024 .bf16) (ix2 j k)) = fun j k => m ((c : Thread nD τ).loc main_arg9) (ix2 ⟨512 + j.val, high_lt j⟩ k) := by
    funext j k; blk_point [iblk, V, idx t]
  have h12 : (fun k => (iblk m c 12 t : FVec Ideal S1x1024 .f32) (ix2 0 k)) = fun k => m ((c : Thread nD τ).loc main_arg10) (ix1 k) := by
    funext k; blk_point [iblk, V, idx t]
  have h13 : (fun j k => (iblk m c 13 t : FVec Ideal S1024x1024 .bf16) (ix2 j k)) = fun j k => m ((c : Thread nD τ).loc main_arg11) (ix2 j k) := by
    funext j k; blk_point [iblk, V, idx t]
  have h14 : (fun j k => (iblk m c 14 t : FVec Ideal S1x256x1024 .bf16) (ix3 0 j k)) = fun j k => m ((c : Thread nD τ).loc main_arg12) (ix3 ⟨t.val / 16, by omega⟩ j k) := by
    funext j k; blk_point [iblk, V, idx t]
  have h15 : (fun j k => (iblk m c 15 t : FVec Ideal S1x256x1024 .bf16) (ix3 0 j k)) = fun j k => m ((c : Thread nD τ).loc main_arg13) (ix3 ⟨t.val / 16, by omega⟩ j k) := by
    funext j k; blk_point [iblk, V, idx t]
  have h16 : (fun j k => (iblk m c 16 t : FVec Ideal S1024x1024 .bf16) (ix2 j k)) = fun j k => m ((c : Thread nD τ).loc main_arg14) (ix2 j k) := by
    funext j k; blk_point [iblk, V, idx t]
  rw [h0, h1, h2, h3, h4, h5, h6, h7, h8, h10, h11, h12, h13, h14, h15, h16]

end Cert.Mix

end
-- ==== Proof.MixClaims.lean ====
/- The mix call's claims: the frames of the kernel as compiled, of its ideal form and of the reference, and
   the equality of the two result arrays, from the value lemmas of `Proof/Mix.lean`. -/
module

public import proofs.«01_k».proof.Defs
public import proofs.«01_k».proof.Proof.Mix
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import Idealize.ShloMosaic.Lib.Quiescent

@[expose] public section

set_option maxRecDepth 16384

noncomputable section

namespace Cert.Mix

open Idealize.ShloMosaic Idealize.ShloMosaic.TcCoe Idealize.SL.Sem

/-- The kernel as compiled terminates, leaves its arguments as they were and every semaphore at zero. -/
theorem frame_kernel : Cert.quiescent_Kernel3 := fun m ρ _ => Cert.Kernel3.Gen.frame m ρ

/-- The kernel's ideal form terminates, leaves its arguments as they were and every semaphore at zero. -/
theorem frame_ideal : Cert.quiescent_Kernel3Ideal := fun m ρ _ => Cert.Kernel3Ideal.Gen.frame m ρ

/-- The reference terminates and leaves its arguments as they were; it has no semaphore. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The compiled kernel and its ideal form are one program. -/
theorem preserved : Cert.preserves_Kernel3_Kernel3Ideal := trivial

/-- On equal arguments the ideal kernel and the reference end with equal result arrays. -/
theorem algebraic : Cert.algebraic_Kernel3Ideal_Reference3Ideal := by
  intro m ρ m' ρ' _ hagree
  refine ⟨fun c => (Cert.Kernel3Ideal.Gen.dats m 0 c).arrAt 17 Cert.Kernel3Ideal.cfg0.N, ?_, ?_⟩
  · exact Cert.Kernel3Ideal.Value.run_blocks (F := Ideal) m ρ
  refine (θ_run Cert.Reference3Ideal.defs _ _).mono (fun _ h c => ⟨(h c).1.trans ?_, (h c).2⟩)
    (Cert.Reference3Ideal.Value.run (F := Ideal) m' ρ')
  obtain ⟨a0, a1, a2, a3, a4, a5, a6, a7, a8, a9, a10, a11, a12, a13, a14⟩ := hagree c
  refine Eq.trans ?_ (final m c).symm
  rw [Cert.Reference3Ideal.Read.val_main_v78_eq m' c, a0, a1, a2, a3, a4, a5, a6, a7, a8, a9, a10, a11, a12, a13, a14]

end Cert.Mix

end
-- ==== Proof.Proj.lean ====
module

public import proofs.«01_k».proof.Proof.Gen.Kernel4Ideal.Value
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proj

open Cert.Kernel4Ideal Cert.Kernel4Ideal.Gen

/-- A row of the block under the norm. -/
theorem xn_apply (x : FVec Ideal S512x1024 .f32) (g : FVec Ideal S1x1024 .f32) (r : Fin 512) (k : Fin 1024) :
    k0_pay6 (F := Ideal) x g (ix2 r k) = Rows.rms (fun q => x (ix2 r q)) (fun q => g (ix2 0 q)) k := by
  pointwise [k0_pay6]
  rfl

/-- The query rows before their cut into heads: `(e, r)` is column `e` of the weight against row `r`, times the scale. -/
theorem q_apply (x : FVec Ideal S512x1024 .f32) (g : FVec Ideal S1x1024 .f32) (w : FVec Ideal S512x1024 .bf16)
    (e r : Fin 512) :
    k0_pay7 (F := Ideal) x g w (ix2 e r)
      = (∑ q : Fin 1024, w (ix2 e q) * Rows.rms (fun q => x (ix2 r q)) (fun q => g (ix2 0 q)) q)
          * Named.named (F := Ideal) κ "scale" (φ := .f32) 0x3E38AA3B#32 := by
  have h := xn_apply x g
  unfold k0_pay7
  generalize k0_pay6 (F := Ideal) x g = M at h
  pointwise []
  simp only [h]

/-- The columns that stay as they are: the compression streams. -/
theorem kvc_apply (M : FVec Ideal S512x1024 .bf16) (w : FVec Ideal S1024x256 .bf16) (a : Fin 1) (r : Fin 512) (k : Fin 256) :
    k0_pay46 (F := Ideal) M (k0_pay45 w) (constant S512x256 .f32 0x00000000#32) (ix3 a r k)
      = ∑ q : Fin 1024, M (ix2 r q) * w (ix2 q k) := by
  pointwise [k0_pay46, k0_pay45]

/-- The columns that stay as they are: the RWKV streams. -/
theorem rw_apply (M : FVec Ideal S512x1024 .bf16) (w : FVec Ideal S1024x1792 .bf16) (a : Fin 1) (r : Fin 512) (k : Fin 1792) :
    k0_pay47 (F := Ideal) M w (ix3 a r k) = ∑ q : Fin 1024, M (ix2 r q) * w (ix2 q k) := by
  pointwise [k0_pay47]

/-- The gates: a row of the reordered weight against a row of the block, plus the bias. -/
theorem gate_apply (M : FVec Ideal S512x1024 .bf16) (w : FVec Ideal S32x1024 .bf16) (b : FVec Ideal S32x1 .f32)
    (e : Fin 32) (r : Fin 512) :
    k0_pay57 (F := Ideal) M w b (ix2 e r) = (∑ q : Fin 1024, w (ix2 e q) * M (ix2 r q)) + b (ix2 e 0) := by
  pointwise [k0_pay57]

/-- The rows that hold a one, of the padded value rows. -/
theorem ones_row : ∀ e : Fin 320, IntOp.ori (IntOp.ori (IntOp.ori (IntOp.cmpi CmpIPredicate.eq (BitVec.ofNat 32 e.val) 64#32)
      (IntOp.cmpi CmpIPredicate.eq (BitVec.ofNat 32 e.val) 144#32)) (IntOp.cmpi CmpIPredicate.eq (BitVec.ofNat 32 e.val) 224#32))
      (IntOp.cmpi CmpIPredicate.eq (BitVec.ofNat 32 e.val) 304#32) = if e.val % 80 = 64 then 1#1 else 0#1 := by
  decide +kernel

/-- A choice by a decided bit is the choice by its proposition. -/
theorem select_ite {α : Type} (p : Prop) [Decidable p] (a b : α) :
    Scalar.select (if p then 1#1 else 0#1) a b = if p then a else b := by
  by_cases h : p <;> simp [h, Scalar.select]

/-- The value rows: a row of the padded weight against a row of the block, and a one in each head's row 64. -/
theorem v_apply (M : FVec Ideal S512x1024 .bf16) (w : FVec Ideal S320x1024 .bf16) (e : Fin 320) (r : Fin 512) :
    k0_pay50 (F := Ideal) M w (ix2 e r)
      = if e.val % 80 = 64 then 1 else ∑ q : Fin 1024, w (ix2 e q) * M (ix2 r q) := by
  pointwise [k0_pay50]
  rw [ones_row, select_ite]

/-- The first token of a grid point's block, within its sequence. -/
theorem first_tok : ∀ t : Fin 32, Scalar.remsi (Scalar.muli (BitVec.ofNat 32 t.val) 512#32) 8192#32
    = BitVec.ofNat 32 (t.val % 16 * 512) := by
  decide +kernel

/-- The mark of a token: which of 16 blocks of 64 it lies in. -/
theorem mark_tok : ∀ (t : Fin 16) (r : Fin 512), IntOp.andi (IntOp.shrsi ArithUnit.vector
      (IntOp.addi (BitVec.ofNat 32 (t.val * 512)) (BitVec.ofNat 32 r.val)) 6#32) 15#32
    = BitVec.ofNat 32 ((t.val * 8 + r.val / 64) % 16) := by
  decide +kernel

/-- A lane within its group of 128, against a mark. -/
theorem mark_lane : ∀ (k : Fin 512) (b : Fin 16), IntOp.andi (IntOp.cmpi CmpIPredicate.eq (IntOp.andi (BitVec.ofNat 32 k.val) 127#32)
      (IntOp.addi 64#32 (BitVec.ofNat 32 b.val))) (IntOp.cmpi CmpIPredicate.slt (BitVec.ofNat 32 k.val) 256#32)
    = if k.val < 256 ∧ k.val % 128 = 64 + b.val then 1#1 else 0#1 := by
  decide +kernel

/-- The key lanes: a column of the padded weight against a row of the block, and a one in a selection key's mark. -/
theorem k_apply (t : Fin 32) (M : FVec Ideal S512x1024 .bf16) (w : FVec Ideal S1024x512 .bf16) (r k : Fin 512) :
    k0_pay48 (F := Ideal) (BitVec.ofNat 32 t.val) M w (ix2 r k)
      = if k.val < 256 ∧ k.val % 128 = 64 + (t.val * 8 + r.val / 64) % 16 then 1
        else ∑ q : Fin 1024, M (ix2 r q) * w (ix2 q k) := by
  pointwise [k0_pay48]
  have h := mark_tok ⟨t.val % 16, by omega⟩ r
  dsimp only at h
  rw [first_tok, h, mark_lane k ⟨(t.val % 16 * 8 + r.val / 64) % 16, by omega⟩, select_ite]
  dsimp only
  have hm : (t.val % 16 * 8 + r.val / 64) % 16 = (t.val * 8 + r.val / 64) % 16 := by omega
  simp only [hm]

/-- A tile cut out of the query rows, where it is read. -/
theorem cut_q (o p : ℕ) (v : FVec Ideal S512x512 .bf16) (hs : S512x512.Slices ![o, p] S64x128)
    (hc : S64x128.ShapeCasts S1x1x1x64x128) (x : S1x1x1x64x128.Idx) (e : Fin 512) (r : Fin 512) (he : e.val = o + (x 3).val)
    (hr : r.val = p + (x 4).val) :
    shapeCast S1x1x1x64x128 (extractStridedSlice S64x128 ![o, p] v hs) hc x = v (ix2 e r) := by
  obtain ⟨i, j, rfl⟩ : ∃ (i : Fin 64) (j : Fin 128), x = ix5 0 0 0 i j := ⟨x 3, x 4, by
    rw [eq_ix5 x]; congr 1 <;> exact Subsingleton.elim (α := Fin 1) _ _⟩
  pointwise []
  exact congrArg v (congrArg₂ ix2 (Fin.ext he.symm) (Fin.ext hr.symm))

/-- A tile cut out of the gate rows, where it is read. -/
theorem cut_g (o p : ℕ) (v : FVec Ideal S32x512 .f32) (hs : S32x512.Slices ![o, p] S16x128)
    (hc : S16x128.ShapeCasts S1x1x1x16x128) (x : S1x1x1x16x128.Idx) (e : Fin 32) (r : Fin 512) (he : e.val = o + (x 3).val)
    (hr : r.val = p + (x 4).val) :
    shapeCast S1x1x1x16x128 (extractStridedSlice S16x128 ![o, p] v hs) hc x = v (ix2 e r) := by
  obtain ⟨i, j, rfl⟩ : ∃ (i : Fin 16) (j : Fin 128), x = ix5 0 0 0 i j := ⟨x 3, x 4, by
    rw [eq_ix5 x]; congr 1 <;> exact Subsingleton.elim (α := Fin 1) _ _⟩
  pointwise []
  exact congrArg v (congrArg₂ ix2 (Fin.ext he.symm) (Fin.ext hr.symm))

/-- A tile cut out of the value rows, where it is read. -/
theorem cut_v (o p : ℕ) (v : FVec Ideal S320x512 .bf16) (hs : S320x512.Slices ![o, p] S160x128)
    (hc : S160x128.ShapeCasts S1x1x160x128) (x : S1x1x160x128.Idx) (e : Fin 320) (r : Fin 512) (he : e.val = o + (x 2).val)
    (hr : r.val = p + (x 3).val) :
    shapeCast S1x1x160x128 (extractStridedSlice S160x128 ![o, p] v hs) hc x = v (ix2 e r) := by
  obtain ⟨i, j, rfl⟩ : ∃ (i : Fin 160) (j : Fin 128), x = ix4 0 0 i j := ⟨x 2, x 3, by
    rw [eq_ix4 x]; congr 1 <;> exact Subsingleton.elim (α := Fin 1) _ _⟩
  pointwise []
  exact congrArg v (congrArg₂ ix2 (Fin.ext he.symm) (Fin.ext hr.symm))

theorem zero4 : (![0, 0, 0, 0] : Fin 4 → ℕ) = fun _ => 0 := by
  funext a; fin_cases a <;> rfl

theorem zero3 : (![0, 0, 0] : Fin 3 → ℕ) = fun _ => 0 := by
  funext a; fin_cases a <;> rfl

theorem zero2 : (![0, 0] : Fin 2 → ℕ) = fun _ => 0 := by
  funext a; fin_cases a <;> rfl

section Out

variable (i : grid0.Coords) (x0 : Vec Ideal S512x1024 .f32) (x1 : Vec Ideal S1x1024 .f32) (x2 : Vec Ideal S512x1024 .bf16)
    (x3 : Vec Ideal S1024x256 .bf16) (x4 : Vec Ideal S1024x512 .bf16) (x5 : Vec Ideal S320x1024 .bf16)
    (x6 : Vec Ideal S32x1024 .bf16) (x7 : Vec Ideal S32x1 .f32) (x8 : Vec Ideal S1024x1792 .bf16)

/-- Where a grid point's query tiles put the query rows. -/
theorem out9_apply (j : Fin 4) (h : Fin 2) (d : Fin 64) (c : Fin 512) :
    out0_9 (F := Ideal) i x0 x1 x2 x3 x4 x5 x6 x7 x8 (ix5 0 j h d c)
      = k0_pay7 (F := Ideal) x0 x1 x2 (ix2 ⟨(h.val * 4 + c.val / 128) * 64 + d.val, by omega⟩ ⟨j.val * 128 + c.val % 128, by omega⟩) := by
  unfold out0_9 k0_pay63 k0_pay8 k0_pay9 k0_pay10
  rw [View.ld_unit_zero zero2, View.ld_unit_zero zero2, View.ld_unit_zero zero2]
  generalize k0_pay7 (F := Ideal) x0 x1 x2 = W
  canon_tiles x hx
  all_goals open_payloads
  all_goals
    have h1 : j.val = _ := hx1
    have h2 : h.val = _ := hx2
    have h3 : d.val = _ := hx3
    have h4 : c.val = _ := hx4
    refine cut_q _ _ _ _ _ x _ _ ?_ ?_
  all_goals (dsimp only; omega)

/-- Where a grid point's gate tiles put the gate rows. -/
theorem out14_apply (j : Fin 4) (h : Fin 2) (d : Fin 16) (c : Fin 128) :
    out0_14 (F := Ideal) i x0 x1 x2 x3 x4 x5 x6 x7 x8 (ix5 0 j h d c)
      = k0_pay57 (F := Ideal) (k0_pay6 x0 x1) x6 x7 (ix2 ⟨h.val * 16 + d.val, by omega⟩ ⟨j.val * 128 + c.val, by omega⟩) := by
  unfold out0_14 k0_pay64 k0_pay62 k0_pay58 k0_pay59 k0_pay60 k0_pay61
  rw [View.ld_unit_zero zero2, View.ld_unit_zero zero2, View.ld_unit_zero zero2, View.ld_unit_zero zero2]
  generalize k0_pay57 (F := Ideal) (k0_pay6 x0 x1) x6 x7 = W
  canon_tiles x hx
  all_goals open_payloads
  all_goals
    have h1 : j.val = _ := hx1
    have h2 : h.val = _ := hx2
    have h3 : d.val = _ := hx3
    have h4 : c.val = _ := hx4
    refine cut_g _ _ _ _ _ x _ _ ?_ ?_
  all_goals (dsimp only; omega)

/-- Where a grid point's window value tiles put the value rows: the lower half. -/
theorem out13_apply (j : Fin 4) (e : Fin 160) (c : Fin 128) :
    out0_13 (F := Ideal) i x0 x1 x2 x3 x4 x5 x6 x7 x8 (ix4 0 j e c)
      = k0_pay50 (F := Ideal) (k0_pay6 x0 x1) x5 (ix2 ⟨160 + e.val, by omega⟩ ⟨j.val * 128 + c.val, by omega⟩) := by
  unfold out0_13 k0_pay62 k0_pay52 k0_pay53 k0_pay54
  rw [View.ld_unit_zero zero2, View.ld_unit_zero zero2, View.ld_unit_zero zero2]
  generalize k0_pay50 (F := Ideal) (k0_pay6 x0 x1) x5 = W
  canon_tiles x hx
  all_goals open_payloads
  all_goals
    have h1 : j.val = _ := hx1
    have h2 : e.val = _ := hx2
    have h3 : c.val = _ := hx3
    refine cut_v _ _ _ _ _ x _ _ ?_ ?_
  all_goals (dsimp only; omega)

/-- A grid point's selection value tile is the upper half of the value rows. -/
theorem out12_apply (e : Fin 160) (r : Fin 512) :
    out0_12 (F := Ideal) i x0 x1 x2 x3 x4 x5 x6 x7 x8 (ix4 0 0 e r)
      = k0_pay50 (F := Ideal) (k0_pay6 x0 x1) x5 (ix2 ⟨e.val, by omega⟩ r) := by
  unfold out0_12 k0_pay62 k0_pay51
  rw [View.ld_unit_zero zero2, View.ld_unit_zero zero2, View.ld_unit_zero zero2, View.canon_unit_zero zero4]
  generalize k0_pay50 (F := Ideal) (k0_pay6 x0 x1) x5 = W
  pointwise []

/-- A grid point's key block is the key lanes. -/
theorem out11_apply (r k : Fin 512) :
    out0_11 (F := Ideal) i x0 x1 x2 x3 x4 x5 x6 x7 x8 (ix3 0 r k)
      = k0_pay48 (F := Ideal) (BitVec.ofNat 32 (i 0).val) (k0_pay6 x0 x1) x4 (ix2 r k) := by
  unfold out0_11 k0_pay62
  rw [View.ld_unit_zero zero2, View.ld_unit_zero zero2, View.ld_unit_zero zero2, View.canon_unit_zero zero3]
  generalize k0_pay48 (F := Ideal) _ (k0_pay6 x0 x1) x4 = W
  pointwise [k0_pay49]

/-- A grid point's compression block, read. -/
theorem out10_apply (r : Fin 512) (k : Fin 256) :
    out0_10 (F := Ideal) i x0 x1 x2 x3 x4 x5 x6 x7 x8 (ix3 0 r k)
      = ∑ q : Fin 1024, k0_pay6 (F := Ideal) x0 x1 (ix2 r q) * x3 (ix2 q k) := by
  unfold out0_10 k0_pay62
  rw [View.ld_unit_zero zero2, View.ld_unit_zero zero2, View.ld_unit_zero zero2, View.canon_unit_zero zero3]
  exact kvc_apply _ _ _ _ _

/-- A grid point's RWKV block, read. -/
theorem out15_apply (r : Fin 512) (k : Fin 1792) :
    out0_15 (F := Ideal) i x0 x1 x2 x3 x4 x5 x6 x7 x8 (ix3 0 r k)
      = ∑ q : Fin 1024, k0_pay6 (F := Ideal) x0 x1 (ix2 r q) * x8 (ix2 q k) := by
  unfold out0_15 k0_pay62
  rw [View.ld_unit_zero zero2, View.ld_unit_zero zero2, View.ld_unit_zero zero2, View.canon_unit_zero zero3]
  exact rw_apply _ _ _ _ _

end Out

end Cert.Proj

end
-- ==== Proof.ProjRead.lean ====
module

public import proofs.«01_k».proof.Proof.Proj

@[expose] public section

set_option maxRecDepth 16384

noncomputable section

open Idealize.ShloMosaic Idealize.ShloMosaic.TcCoe Idealize.SL.Sem
open Idealize.ShloMosaic.Pipeline (Dat)

namespace Cert.Proj

open Cert.Kernel4Ideal Cert.Kernel4Ideal.Gen

variable (m : (ℓ : Loc nD τ sig) → Buf (Elt Ideal) ℓ) (c : Dev nD) (t : Fin cfg0.N)

/-- Every window's block index at point `t`: the stream's and the results' blocks follow `t`, a weight's is the whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val / 16, t.val % 16, 0, 0, 0]
    ∧ win0_10.index t = ![t.val / 16, t.val % 16, 0] ∧ win0_11.index t = ![t.val / 16, t.val % 16, 0]
    ∧ win0_12.index t = ![t.val / 16, t.val % 16, 0, 0] ∧ win0_13.index t = ![t.val / 16, t.val % 16, 0, 0]
    ∧ win0_14.index t = ![t.val / 16, t.val % 16, 0, 0, 0] ∧ win0_15.index t = ![t.val / 16, t.val % 16, 0]
    ∧ (grid0.coords t 0).val = t.val :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val / 16, t.val % 16, 0, 0, 0]
    ∧ win0_10.index t = ![t.val / 16, t.val % 16, 0] ∧ win0_11.index t = ![t.val / 16, t.val % 16, 0]
    ∧ win0_12.index t = ![t.val / 16, t.val % 16, 0, 0] ∧ win0_13.index t = ![t.val / 16, t.val % 16, 0, 0]
    ∧ win0_14.index t = ![t.val / 16, t.val % 16, 0, 0, 0] ∧ win0_15.index t = ![t.val / 16, t.val % 16, 0]
    ∧ (grid0.coords t 0).val = t.val)

/-- The program's arguments: the tokens, the norm's gain, the weight, the gates' bias. -/
abbrev argX : FVec Ideal S2x8192x1024 .f32 := m ((c : Thread nD τ).loc main_arg0)
abbrev argG : FVec Ideal S1024 .f32 := m ((c : Thread nD τ).loc main_arg1)
abbrev argW : FVec Ideal S1024x3096 .f32 := m ((c : Thread nD τ).loc main_arg2)
abbrev argB : FVec Ideal S24 .f32 := m ((c : Thread nD τ).loc main_arg3)

/-- The value that a host padding fills in. -/
def fill : FVec Ideal S_ .f32 := sitofp .f32 (constantI S_ 32 0#32)

theorem fill_zero (i : S_.Idx) : fill i = (0 : EReal) := by
  unfold fill
  show (((0#32 : BitVec 32).toInt : ℝ) : EReal) = 0
  simp

/-- The key weight: two branches, each head's 64 columns padded to 128. -/
def keyW (W : FVec Ideal S1024x3096 .f32) : FVec Ideal S1024x512 .bf16 :=
  truncf .bf16 (concatenate S1024x512 1
    [⟨S1024x256, shapeCast S1024x256 (pad S1024x2x128 ![0, 0, 0] ![0, 0, 64] ![0, 0, 0]
        (shapeCast S1024x2x64 (extractStridedSlice S1024x128 ![0, 768] W slices_S1024x3096_S1024x128_0_768) shapeCasts_S1024x128_S1024x2x64)
        fill pads_S1024x2x64_S1024x2x128_000_000_0640 h_S_) shapeCasts_S1024x2x128_S1024x256⟩,
     ⟨S1024x256, shapeCast S1024x256 (pad S1024x2x128 ![0, 0, 0] ![0, 0, 64] ![0, 0, 0]
        (shapeCast S1024x2x64 (extractStridedSlice S1024x128 ![0, 1024] W slices_S1024x3096_S1024x128_0_1024) shapeCasts_S1024x128_S1024x2x64)
        fill pads_S1024x2x64_S1024x2x128_000_000_0640 h_S_) shapeCasts_S1024x2x128_S1024x256⟩]
    concatenates_S1024x256_S1024x256_S1024x512_d1) bitsLt_bf16_f32

/-- The value weight, transposed: two branches, each head's 64 rows padded to 80. -/
def valW (W : FVec Ideal S1024x3096 .f32) : FVec Ideal S320x1024 .bf16 :=
  truncf .bf16 (concatenate S320x1024 0
    [⟨S160x1024, shapeCast S160x1024 (pad S2x80x1024 ![0, 0, 0] ![0, 16, 0] ![0, 0, 0]
        (transpose S2x64x1024 [1, 2, 0] (shapeCast S1024x2x64 (extractStridedSlice S1024x128 ![0, 896] W slices_S1024x3096_S1024x128_0_896)
          shapeCasts_S1024x128_S1024x2x64) transposes_S1024x2x64_S2x64x1024_1_2_0)
        fill pads_S2x64x1024_S2x80x1024_000_0160_000 h_S_) shapeCasts_S2x80x1024_S160x1024⟩,
     ⟨S160x1024, shapeCast S160x1024 (pad S2x80x1024 ![0, 0, 0] ![0, 16, 0] ![0, 0, 0]
        (transpose S2x64x1024 [1, 2, 0] (shapeCast S1024x2x64 (extractStridedSlice S1024x128 ![0, 1152] W slices_S1024x3096_S1024x128_0_1152)
          shapeCasts_S1024x128_S1024x2x64) transposes_S1024x2x64_S2x64x1024_1_2_0)
        fill pads_S2x64x1024_S2x80x1024_000_0160_000 h_S_) shapeCasts_S2x80x1024_S160x1024⟩]
    concatenates_S160x1024_S160x1024_S320x1024_d0) bitsLt_bf16_f32

/-- The gate weight, transposed: each head's 12 rows padded to 16. -/
def gateW (W : FVec Ideal S1024x3096 .f32) : FVec Ideal S32x1024 .bf16 :=
  truncf .bf16 (shapeCast S32x1024 (pad S2x16x1024 ![0, 0, 0] ![0, 4, 0] ![0, 0, 0]
      (shapeCast S2x12x1024 (transpose S2x3x4x1024 [1, 3, 2, 0] (shapeCast S1024x2x4x3
          (extractStridedSlice S1024x24 ![0, 1280] W slices_S1024x3096_S1024x24_0_1280) shapeCasts_S1024x24_S1024x2x4x3)
        transposes_S1024x2x4x3_S2x3x4x1024_1_3_2_0) shapeCasts_S2x3x4x1024_S2x12x1024)
      fill pads_S2x12x1024_S2x16x1024_000_040_000 h_S_) shapeCasts_S2x16x1024_S32x1024) bitsLt_bf16_f32

/-- The gate bias, laid out as the gate weight is. -/
def gateB (g : FVec Ideal S24 .f32) : FVec Ideal S32x1 .f32 :=
  shapeCast S32x1 (pad S2x16x1 ![0, 0, 0] ![0, 4, 0] ![0, 0, 0]
      (shapeCast S2x12x1 (transpose S2x3x4x1 [1, 3, 2, 0] (shapeCast S1x2x4x3
          (shapeCast S1x24 g shapeCasts_S24_S1x24) shapeCasts_S1x24_S1x2x4x3)
        transposes_S1x2x4x3_S2x3x4x1_1_3_2_0) shapeCasts_S2x3x4x1_S2x12x1)
      fill pads_S2x12x1_S2x16x1_000_040_000 h_S_) shapeCasts_S2x16x1_S32x1

theorem V_x : (V m c main_v42 : FVec Ideal S16384x1024 .f32) = shapeCast S16384x1024 (argX m c) shapeCasts_S2x8192x1024_S16384x1024 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V_g : (V m c main_v43 : FVec Ideal S1x1024 .f32) = shapeCast S1x1024 (argG m c) shapeCasts_S1024_S1x1024 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V_q : (V m c main_v35 : FVec Ideal S512x1024 .bf16) = truncf .bf16 (transpose S512x1024 [1, 0] (extractStridedSlice S1024x512 ![0, 0] (argW m c) slices_S1024x3096_S1024x512_0_0) transposes_S1024x512_S512x1024_1_0) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V_c : (V m c main_v36 : FVec Ideal S1024x256 .bf16) = truncf .bf16 (extractStridedSlice S1024x256 ![0, 512] (argW m c) slices_S1024x3096_S1024x256_0_512) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V_k : (V m c main_v37 : FVec Ideal S1024x512 .bf16) = keyW (argW m c) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V_v : (V m c main_v38 : FVec Ideal S320x1024 .bf16) = valW (argW m c) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V_gw : (V m c main_v39 : FVec Ideal S32x1024 .bf16) = gateW (argW m c) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V_gb : (V m c main_v31 : FVec Ideal S32x1 .f32) = gateB (argB m c) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

theorem V_rw : (V m c main_v41 : FVec Ideal S1024x1792 .bf16) = truncf .bf16 (extractStridedSlice S1024x1792 ![0, 1304] (argW m c) slices_S1024x3096_S1024x1792_0_1304) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  rfl

/-- The key weight's columns: 64 of a head, then zeros. -/
theorem keyW_apply (W : FVec Ideal S1024x3096 .f32) (q : Fin 1024) (k : Fin 512) : keyW W (ix2 q k)
    = if h : k.val % 128 < 64 then W (ix2 q (⟨768 + 256 * (k.val / 256) + 64 * (k.val / 128 % 2) + k.val % 128, by omega⟩ : Fin 3096)) else 0 := by
  unfold keyW
  have hf := fill_zero
  generalize fill = z at hf ⊢
  pointwise []
  by_cases h : k.val % 128 < 64
  · by_cases hb : k.val < 256
    · have hc : k.val / 128 < 2 ∧ k.val % 128 < 64 := ⟨by omega, by omega⟩
      refine (dif_pos hb).trans ((dif_pos hc).trans (Eq.trans ?_ (dif_pos h).symm))
      blk_point
    · have hc : (k.val - 256) / 128 < 2 ∧ (k.val - 256) % 128 < 64 := ⟨by omega, by omega⟩
      refine (dif_neg hb).trans ((dif_pos hc).trans (Eq.trans ?_ (dif_pos h).symm))
      blk_point
  · by_cases hb : k.val < 256
    · have hc : ¬(k.val / 128 < 2 ∧ k.val % 128 < 64) := by omega
      refine (dif_pos hb).trans ((dif_neg hc).trans (Eq.trans ?_ (dif_neg h).symm))
      exact hf _
    · have hc : ¬((k.val - 256) / 128 < 2 ∧ (k.val - 256) % 128 < 64) := by omega
      refine (dif_neg hb).trans ((dif_neg hc).trans (Eq.trans ?_ (dif_neg h).symm))
      exact hf _

/-- The value weight's rows: 64 of a head, then zeros. -/
theorem valW_apply (W : FVec Ideal S1024x3096 .f32) (e : Fin 320) (q : Fin 1024) : valW W (ix2 e q)
    = if h : e.val % 80 < 64 then W (ix2 q (⟨896 + 256 * (e.val / 160) + 64 * (e.val / 80 % 2) + e.val % 80, by omega⟩ : Fin 3096)) else 0 := by
  unfold valW
  have hf := fill_zero
  generalize fill = z at hf ⊢
  pointwise []
  by_cases h : e.val % 80 < 64
  · by_cases hb : e.val < 160
    · have hc : e.val / 80 < 2 ∧ e.val % 80 < 64 := ⟨by omega, by omega⟩
      refine (dif_pos hb).trans ((dif_pos hc).trans (Eq.trans ?_ (dif_pos h).symm))
      blk_point
    · have hc : (e.val - 160) / 80 < 2 ∧ (e.val - 160) % 80 < 64 := ⟨by omega, by omega⟩
      refine (dif_neg hb).trans ((dif_pos hc).trans (Eq.trans ?_ (dif_pos h).symm))
      blk_point
  · by_cases hb : e.val < 160
    · have hc : ¬(e.val / 80 < 2 ∧ e.val % 80 < 64) := by omega
      refine (dif_pos hb).trans ((dif_neg hc).trans (Eq.trans ?_ (dif_neg h).symm))
      exact hf _
    · have hc : ¬((e.val - 160) / 80 < 2 ∧ (e.val - 160) % 80 < 64) := by omega
      refine (dif_neg hb).trans ((dif_neg hc).trans (Eq.trans ?_ (dif_neg h).symm))
      exact hf _

/-- The gate weight's rows: 12 of a head, then zeros. -/
theorem gateW_apply (W : FVec Ideal S1024x3096 .f32) (e : Fin 32) (q : Fin 1024) : gateW W (ix2 e q)
    = if h : e.val % 16 < 12 then
        W (ix2 q (⟨1280 + (e.val / 16 * 12 + e.val % 16 % 4 * 3 + e.val % 16 / 4), by omega⟩ : Fin 3096)) else 0 := by
  unfold gateW
  have hf := fill_zero
  generalize fill = z at hf ⊢
  pointwise []
  by_cases h : e.val % 16 < 12
  · have hc : e.val / 16 < 2 ∧ e.val % 16 < 12 := ⟨by omega, by omega⟩
    refine (dif_pos hc).trans (Eq.trans ?_ (dif_pos h).symm)
    rfl
  · have hc : ¬(e.val / 16 < 2 ∧ e.val % 16 < 12) := by omega
    refine (dif_neg hc).trans (Eq.trans ?_ (dif_neg h).symm)
    exact hf _

/-- The gate bias: 12 entries of a head, then zeros. -/
theorem gateB_apply (g : FVec Ideal S24 .f32) (e : Fin 32) : gateB g (ix2 e 0)
    = if h : e.val % 16 < 12 then g (ix1 (⟨e.val / 16 * 12 + e.val % 16 % 4 * 3 + e.val % 16 / 4, by omega⟩ : Fin 24)) else 0 := by
  unfold gateB
  have hf := fill_zero
  generalize fill = z at hf ⊢
  pointwise []
  by_cases h : e.val % 16 < 12
  · have hc : e.val / 16 < 2 ∧ e.val % 16 < 12 := ⟨by omega, by omega⟩
    refine (dif_pos hc).trans (Eq.trans ?_ (dif_pos h).symm)
    rfl
  · have hc : ¬(e.val / 16 < 2 ∧ e.val % 16 < 12) := by omega
    refine (dif_neg hc).trans (Eq.trans ?_ (dif_neg h).symm)
    exact hf _

theorem blk0 (ht : t.val < 32) (r : Fin 512) (q : Fin 1024) : (iblk m c 0 t : FVec Ideal S512x1024 .f32) (ix2 r q)
    = argX m c (ix3 (⟨t.val / 16, by omega⟩ : Fin 2) (⟨t.val % 16 * 512 + r.val, by omega⟩ : Fin 8192) q) := by
  have hw : ((cfg0.win 0).blk t).view.emb (ix2 r q) = ix2 (⟨t.val * 512 + r.val, by omega⟩ : Fin 16384) q := by blk_ext [iblk, V, idx t]
  have hr : (iblk m c 0 t : FVec Ideal S512x1024 .f32) (ix2 r q) = (V m c main_v42 : FVec Ideal S16384x1024 .f32) (((cfg0.win 0).blk t).view.emb (ix2 r q)) := rfl
  rw [hr, hw, V_x]
  pointwise []
  blk_point

theorem blk1 (q : Fin 1024) : (iblk m c 1 t : FVec Ideal S1x1024 .f32) (ix2 (0 : Fin 1) q)
    = argG m c (ix1 q) := by
  have hw : ((cfg0.win 1).blk t).view.emb (ix2 (0 : Fin 1) q) = ix2 (0 : Fin 1) q := by blk_ext [iblk, V, idx t]
  have hr : (iblk m c 1 t : FVec Ideal S1x1024 .f32) (ix2 (0 : Fin 1) q) = (V m c main_v43 : FVec Ideal S1x1024 .f32) (((cfg0.win 1).blk t).view.emb (ix2 (0 : Fin 1) q)) := rfl
  rw [hr, hw, V_g]
  pointwise []

theorem blk2 (e : Fin 512) (q : Fin 1024) : (iblk m c 2 t : FVec Ideal S512x1024 .bf16) (ix2 e q)
    = argW m c (ix2 q (⟨e.val, by omega⟩ : Fin 3096)) := by
  have hw : ((cfg0.win 2).blk t).view.emb (ix2 e q) = ix2 e q := by blk_ext [iblk, V, idx t]
  have hr : (iblk m c 2 t : FVec Ideal S512x1024 .bf16) (ix2 e q) = (V m c main_v35 : FVec Ideal S512x1024 .bf16) (((cfg0.win 2).blk t).view.emb (ix2 e q)) := rfl
  rw [hr, hw, V_q]
  pointwise []

theorem blk3 (q : Fin 1024) (k : Fin 256) : (iblk m c 3 t : FVec Ideal S1024x256 .bf16) (ix2 q k)
    = argW m c (ix2 q (⟨512 + k.val, by omega⟩ : Fin 3096)) := by
  have hw : ((cfg0.win 3).blk t).view.emb (ix2 q k) = ix2 q k := by blk_ext [iblk, V, idx t]
  have hr : (iblk m c 3 t : FVec Ideal S1024x256 .bf16) (ix2 q k) = (V m c main_v36 : FVec Ideal S1024x256 .bf16) (((cfg0.win 3).blk t).view.emb (ix2 q k)) := rfl
  rw [hr, hw, V_c]
  pointwise []

theorem blk8 (q : Fin 1024) (k : Fin 1792) : (iblk m c 8 t : FVec Ideal S1024x1792 .bf16) (ix2 q k)
    = argW m c (ix2 q (⟨1304 + k.val, by omega⟩ : Fin 3096)) := by
  have hw : ((cfg0.win 8).blk t).view.emb (ix2 q k) = ix2 q k := by blk_ext [iblk, V, idx t]
  have hr : (iblk m c 8 t : FVec Ideal S1024x1792 .bf16) (ix2 q k) = (V m c main_v41 : FVec Ideal S1024x1792 .bf16) (((cfg0.win 8).blk t).view.emb (ix2 q k)) := rfl
  rw [hr, hw, V_rw]
  pointwise []

theorem blk4 (q : Fin 1024) (k : Fin 512) : (iblk m c 4 t : FVec Ideal S1024x512 .bf16) (ix2 q k)
    = if h : k.val % 128 < 64 then (argW m c)
        (ix2 q (⟨768 + 256 * (k.val / 256) + 64 * (k.val / 128 % 2) + k.val % 128, by omega⟩ : Fin 3096)) else 0 := by
  have hw : ((cfg0.win 4).blk t).view.emb (ix2 q k) = ix2 q k := by blk_ext [iblk, V, idx t]
  have hr : (iblk m c 4 t : FVec Ideal S1024x512 .bf16) (ix2 q k) = (V m c main_v37 : FVec Ideal S1024x512 .bf16) (((cfg0.win 4).blk t).view.emb (ix2 q k)) := rfl
  rw [hr, hw, V_k]
  exact keyW_apply _ q k

theorem blk5 (e : Fin 320) (q : Fin 1024) : (iblk m c 5 t : FVec Ideal S320x1024 .bf16) (ix2 e q)
    = if h : e.val % 80 < 64 then (argW m c)
        (ix2 q (⟨896 + 256 * (e.val / 160) + 64 * (e.val / 80 % 2) + e.val % 80, by omega⟩ : Fin 3096)) else 0 := by
  have hw : ((cfg0.win 5).blk t).view.emb (ix2 e q) = ix2 e q := by blk_ext [iblk, V, idx t]
  have hr : (iblk m c 5 t : FVec Ideal S320x1024 .bf16) (ix2 e q) = (V m c main_v38 : FVec Ideal S320x1024 .bf16) (((cfg0.win 5).blk t).view.emb (ix2 e q)) := rfl
  rw [hr, hw, V_v]
  exact valW_apply _ e q

theorem blk6 (e : Fin 32) (q : Fin 1024) : (iblk m c 6 t : FVec Ideal S32x1024 .bf16) (ix2 e q)
    = if h : e.val % 16 < 12 then (argW m c)
        (ix2 q (⟨1280 + (e.val / 16 * 12 + e.val % 16 % 4 * 3 + e.val % 16 / 4), by omega⟩ : Fin 3096)) else 0 := by
  have hw : ((cfg0.win 6).blk t).view.emb (ix2 e q) = ix2 e q := by blk_ext [iblk, V, idx t]
  have hr : (iblk m c 6 t : FVec Ideal S32x1024 .bf16) (ix2 e q) = (V m c main_v39 : FVec Ideal S32x1024 .bf16) (((cfg0.win 6).blk t).view.emb (ix2 e q)) := rfl
  rw [hr, hw, V_gw]
  exact gateW_apply _ e q

theorem blk7 (e : Fin 32) : (iblk m c 7 t : FVec Ideal S32x1 .f32) (ix2 e (0 : Fin 1))
    = if h : e.val % 16 < 12 then (argB m c)
        (ix1 (⟨e.val / 16 * 12 + e.val % 16 % 4 * 3 + e.val % 16 / 4, by omega⟩ : Fin 24)) else 0 := by
  have hw : ((cfg0.win 7).blk t).view.emb (ix2 e (0 : Fin 1)) = ix2 e (0 : Fin 1) := by blk_ext [iblk, V, idx t]
  have hr : (iblk m c 7 t : FVec Ideal S32x1 .f32) (ix2 e (0 : Fin 1)) = (V m c main_v31 : FVec Ideal S32x1 .f32) (((cfg0.win 7).blk t).view.emb (ix2 e (0 : Fin 1))) := rfl
  rw [hr, hw, V_gb]
  exact gateB_apply _ e

end Cert.Proj

end
-- ==== Proof.ProjRef.lean ====
module

public import proofs.«01_k».proof.Proof.Gen.Reference4Ideal.Read
public import proofs.«01_k».proof.Proof.Rows
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proj

open Cert.Reference4Ideal Cert.Reference4Ideal.Gen Cert.Reference4Ideal.Read

variable (x : FVec Ideal S2x8192x1024 .f32) (g : FVec Ideal S1024 .f32) (w : FVec Ideal S1024x3096 .f32) (gb : FVec Ideal S24 .f32)

/-- A token's projection: its row under the norm against a column of the weight. -/
theorem ref_proj (b : Fin 2) (s : Fin 8192) (c : Fin 3096) :
    val_main_v13 (F := Ideal) x g w (ix3 b s c)
      = ∑ q : Fin 1024, Rows.rms (fun q => x (ix3 b s q)) (fun q => g (ix1 q)) q * w (ix2 q c) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The compression streams. -/
theorem ref_kvc (b : Fin 2) (s : Fin 8192) (k : Fin 256) :
    val_main_v65 (F := Ideal) x g w (ix3 b s k) = val_main_v13 (F := Ideal) x g w (ix3 b s ⟨512 + k.val, by omega⟩) := by
  unfold val_main_v65
  generalize val_main_v13 (F := Ideal) x g w = M
  pointwise []

/-- The RWKV streams. -/
theorem ref_rw (b : Fin 2) (s : Fin 8192) (k : Fin 1792) :
    val_main_v69 (F := Ideal) x g w (ix3 b s k) = val_main_v13 (F := Ideal) x g w (ix3 b s ⟨1304 + k.val, by omega⟩) := by
  unfold val_main_v69
  generalize val_main_v13 (F := Ideal) x g w = M
  pointwise []

/-- The literal `0.125` is the real `1 / 8`. -/
theorem eighth : Ideal.ofBits .f32 0x3E000000#32 = ((1 / 8 : ℝ) : EReal) := by
  simp [Ideal.ofBits, Ideal.ieee, -EReal.coe_mul]; norm_num

/-- The literal `2.0` is the real `2`. -/
theorem two : Ideal.ofBits .f32 0x40000000#32 = ((2 : ℝ) : EReal) := by
  simp [Ideal.ofBits, Ideal.ieee, -EReal.coe_mul]; norm_num

/-- The queries, cut into tiles. -/
theorem ref_q0 (b : Fin 2) (j : Fin 64) (h : Fin 2) (d : Fin 64) (c : Fin 512) :
    val_main_v64 (F := Ideal) x g w (ix5 b j h d c)
      = Ideal.div (val_main_v13 (F := Ideal) x g w (ix3 b ⟨j.val * 128 + c.val % 128, by omega⟩ ⟨(h.val * 4 + c.val / 128) * 64 + d.val, by omega⟩)
          * Ideal.ofBits .f32 0x3E000000#32) (Ideal.log (Ideal.ofBits .f32 0x40000000#32)) := by
  unfold val_main_v64 val_main_v22 val_main_v21 val_main_v20 val_main_v19 val_main_v16 val_main_v14
  generalize val_main_v13 (F := Ideal) x g w = M
  pointwise [val_main_v15, val_main_v18, val_main_v17, val_main_cst_2, val_main_cst_3]
  congr 4
  exact Fin.ext (by dsimp only; omega)

/-- An eighth over the natural logarithm of two is one real factor. -/
theorem scaled (a : EReal) : Ideal.div (a * Ideal.ofBits .f32 0x3E000000#32) (Ideal.log (Ideal.ofBits .f32 0x40000000#32))
    = a * (((1 / 8) * (Real.log 2)⁻¹ : ℝ) : EReal) := by
  rw [eighth, two, Ideal.log_coe, if_neg (by norm_num : ¬(2 : ℝ) ≤ 0),
    Ideal.div_coe (show Real.log 2 ≠ 0 from (Real.log_pos (by norm_num)).ne'), mul_assoc, ← EReal.coe_mul]
  simp only [one_div]

/-- The marks: one where a lane names its row. -/
theorem ref_eye (p : Fin 16) (k : Fin 64) : val_main_v28 (F := Ideal) (ix2 p k) = if k.val = p.val then 1 else 0 := by
  have e : ∀ (p : Fin 16) (k : Fin 64), IntOp.cmpi .eq (IntOp.addi (BitVec.ofNat 32 p.val) 0#32) (BitVec.ofNat 32 k.val)
      = if k.val = p.val then 1#1 else 0#1 := by decide +kernel
  pointwise [val_main_v28, val_main_v27, val_main_v26, val_main_v25, val_main_v24, val_main_v23, val_main_c]
  rw [e]
  split
  · show (((1#1 : BitVec 1).toNat : ℝ) : EReal) = 1
    simp
  · show (((0#1 : BitVec 1).toNat : ℝ) : EReal) = 0
    simp

/-- The mark of a token's block. -/
theorem ref_mark (b : Fin 2) (s : Fin 8192) (h : Fin 2) (k : Fin 64) :
    val_main_v31 (F := Ideal) (ix4 b s h k) = if k.val = s.val / 64 % 16 then 1 else 0 := by
  have hv := ref_eye
  unfold val_main_v31 val_main_v30 val_main_v29
  generalize val_main_v28 (F := Ideal) = M at hv
  pointwise []
  exact hv _ _

/-- A head's selection keys beside the marks. -/
theorem ref_half (b : Fin 2) (s : Fin 8192) (h : Fin 2) (k : Fin 128) :
    val_main_v34 (F := Ideal) x g w (ix4 b s h k)
      = if hk : k.val < 64 then val_main_v13 (F := Ideal) x g w (ix3 b s ⟨768 + (h.val * 64 + k.val), by omega⟩)
        else val_main_v31 (F := Ideal) (ix4 b s h ⟨k.val - 64, by omega⟩) := by
  unfold val_main_v34 val_main_v33 val_main_v32
  generalize val_main_v13 (F := Ideal) x g w = M
  generalize val_main_v31 (F := Ideal) = N
  pointwise []

/-- A head's window keys beside zeros. -/
theorem ref_half' (b : Fin 2) (s : Fin 8192) (h : Fin 2) (k : Fin 128) :
    val_main_v38 (F := Ideal) x g w (ix4 b s h k)
      = if hk : k.val < 64 then val_main_v13 (F := Ideal) x g w (ix3 b s ⟨1024 + (h.val * 64 + k.val), by omega⟩) else 0 := by
  unfold val_main_v38 val_main_v36 val_main_v35
  generalize val_main_v13 (F := Ideal) x g w = M
  pointwise [val_main_v37, val_main_cst_4]

/-- The two branches' keys, stacked. -/
theorem ref_stack (b : Fin 2) (s : Fin 8192) (a : Fin 2) (h : Fin 2) (k : Fin 128) :
    val_main_v41 (F := Ideal) x g w (ix5 b s a h k)
      = if _h : a.val < 1 then val_main_v34 (F := Ideal) x g w (ix4 b s h k) else val_main_v38 (F := Ideal) x g w (ix4 b s h k) := by
  unfold val_main_v41 val_main_v40 val_main_v39
  generalize val_main_v34 (F := Ideal) x g w = M
  generalize val_main_v38 (F := Ideal) x g w = N
  pointwise []

/-- A rounding of an array of keys is the array. -/
theorem round_keys (M : FVec Ideal S2x8192x512 .f32) (i : S2x8192x512.Idx) :
    (truncf .bf16 M bitsLt_bf16_f32 : FVec Ideal S2x8192x512 .bf16) i = (M i : EReal) := rfl

theorem row_keys (M : FVec Ideal S2x8192x2x2x128 .f32) (b : Fin 2) (s : Fin 8192) (k : Fin 512) (a h : Fin 2) (d : Fin 128)
    (hk : k.val = (a.val * 2 + h.val) * 128 + d.val) :
    shapeCast S2x8192x512 M shapeCasts_S2x8192x2x2x128_S2x8192x512 (ix3 b s k) = M (ix5 b s a h d) := by
  refine shapeCast_apply M shapeCasts_S2x8192x2x2x128_S2x8192x512 (ix3 b s k) (ix5 b s a h d) ?_
  rw [Shape.rowMajor_val_five, Shape.rowMajor_val_three]
  have hs : (((b.val * 8192 + s.val) * 2 + a.val) * 2 + h.val) * 128 + d.val = (b.val * 8192 + s.val) * 512 + k.val := by omega
  exact hs

/-- The keys of both branches, in one row. -/
theorem ref_row (b : Fin 2) (s : Fin 8192) (k : Fin 512) (a h : Fin 2) (d : Fin 128) (hk : k.val = (a.val * 2 + h.val) * 128 + d.val) :
    val_main_v66 (F := Ideal) x g w (ix3 b s k) = val_main_v41 (F := Ideal) x g w (ix5 b s a h d) := by
  unfold val_main_v66
  refine (round_keys _ _).trans ?_
  unfold val_main_v42
  exact row_keys _ b s k a h d hk

/-- A head's selection values beside their ones. -/
theorem ref_ones (b : Fin 2) (s : Fin 8192) (h : Fin 2) (d : Fin 80) :
    val_main_v47 (F := Ideal) x g w (ix4 b s h d)
      = if hd : d.val < 64 then val_main_v13 (F := Ideal) x g w (ix3 b s ⟨896 + (h.val * 64 + d.val), by omega⟩)
        else if _h : d.val - 64 < 1 then 1 else 0 := by
  unfold val_main_v47 val_main_v46 val_main_v45
  generalize val_main_v13 (F := Ideal) x g w = M
  pointwise [val_main_v43, val_main_v44, val_main_cst_5, val_main_cst_6]

/-- A head's window values beside their ones. -/
theorem ref_ones' (b : Fin 2) (s : Fin 8192) (h : Fin 2) (d : Fin 80) :
    val_main_v50 (F := Ideal) x g w (ix4 b s h d)
      = if hd : d.val < 64 then val_main_v13 (F := Ideal) x g w (ix3 b s ⟨1152 + (h.val * 64 + d.val), by omega⟩)
        else if _h : d.val - 64 < 1 then 1 else 0 := by
  unfold val_main_v50 val_main_v49 val_main_v48
  generalize val_main_v13 (F := Ideal) x g w = M
  pointwise [val_main_v43, val_main_v44, val_main_cst_5, val_main_cst_6]

/-- A rounding of an array of selection values is the array. -/
theorem ref_vs_round (M : FVec Ideal S2x16x160x512 .f32) (i : S2x16x160x512.Idx) :
    (truncf .bf16 M bitsLt_bf16_f32 : FVec Ideal S2x16x160x512 .bf16) i = (M i : EReal) := rfl

theorem ref_vs_swap (M : FVec Ideal S2x16x512x160 .f32) (b : Fin 2) (n : Fin 16) (e : Fin 160) (r : Fin 512) :
    transpose S2x16x160x512 [0, 1, 3, 2] M transposes_S2x16x512x160_S2x16x160x512_0_1_3_2 (ix4 b n e r) = M (ix4 b n r e) := by
  pointwise []

theorem ref_vs_cut (M : FVec Ideal S2x8192x2x80 .f32) (b : Fin 2) (n : Fin 16) (r : Fin 512) (e : Fin 160) (s : Fin 8192) (h : Fin 2) (d : Fin 80)
    (hs : s.val = n.val * 512 + r.val) (he : e.val = h.val * 80 + d.val) :
    shapeCast S2x16x512x160 M shapeCasts_S2x8192x2x80_S2x16x512x160 (ix4 b n r e) = M (ix4 b s h d) := by
  refine shapeCast_apply M shapeCasts_S2x8192x2x80_S2x16x512x160 (ix4 b n r e) (ix4 b s h d) ?_
  rw [Shape.rowMajor_val_four, Shape.rowMajor_val_four]
  have hr : ((b.val * 8192 + s.val) * 2 + h.val) * 80 + d.val = ((b.val * 16 + n.val) * 512 + r.val) * 160 + e.val := by omega
  exact hr

/-- The selection values, cut into tiles and transposed. -/
theorem ref_vs_row (b : Fin 2) (n : Fin 16) (e : Fin 160) (r : Fin 512) (s : Fin 8192) (h : Fin 2) (d : Fin 80)
    (hs : s.val = n.val * 512 + r.val) (he : e.val = h.val * 80 + d.val) :
    val_main_v67 (F := Ideal) x g w (ix4 b n e r) = val_main_v47 (F := Ideal) x g w (ix4 b s h d) := by
  unfold val_main_v67
  refine (ref_vs_round _ _).trans ?_
  unfold val_main_v52
  refine (ref_vs_swap _ b n e r).trans ?_
  unfold val_main_v51
  exact ref_vs_cut _ b n r e s h d hs he

/-- A rounding of an array of window values is the array. -/
theorem ref_vw_round (M : FVec Ideal S2x64x160x128 .f32) (i : S2x64x160x128.Idx) :
    (truncf .bf16 M bitsLt_bf16_f32 : FVec Ideal S2x64x160x128 .bf16) i = (M i : EReal) := rfl

theorem ref_vw_swap (M : FVec Ideal S2x64x128x160 .f32) (b : Fin 2) (n : Fin 64) (e : Fin 160) (r : Fin 128) :
    transpose S2x64x160x128 [0, 1, 3, 2] M transposes_S2x64x128x160_S2x64x160x128_0_1_3_2 (ix4 b n e r) = M (ix4 b n r e) := by
  pointwise []

theorem ref_vw_cut (M : FVec Ideal S2x8192x2x80 .f32) (b : Fin 2) (n : Fin 64) (r : Fin 128) (e : Fin 160) (s : Fin 8192) (h : Fin 2) (d : Fin 80)
    (hs : s.val = n.val * 128 + r.val) (he : e.val = h.val * 80 + d.val) :
    shapeCast S2x64x128x160 M shapeCasts_S2x8192x2x80_S2x64x128x160 (ix4 b n r e) = M (ix4 b s h d) := by
  refine shapeCast_apply M shapeCasts_S2x8192x2x80_S2x64x128x160 (ix4 b n r e) (ix4 b s h d) ?_
  rw [Shape.rowMajor_val_four, Shape.rowMajor_val_four]
  have hr : ((b.val * 8192 + s.val) * 2 + h.val) * 80 + d.val = ((b.val * 64 + n.val) * 128 + r.val) * 160 + e.val := by omega
  exact hr

/-- The window values, cut into tiles and transposed. -/
theorem ref_vw_row (b : Fin 2) (n : Fin 64) (e : Fin 160) (r : Fin 128) (s : Fin 8192) (h : Fin 2) (d : Fin 80)
    (hs : s.val = n.val * 128 + r.val) (he : e.val = h.val * 80 + d.val) :
    val_main_v68 (F := Ideal) x g w (ix4 b n e r) = val_main_v50 (F := Ideal) x g w (ix4 b s h d) := by
  unfold val_main_v68
  refine (ref_vw_round _ _).trans ?_
  unfold val_main_v54
  refine (ref_vw_swap _ b n e r).trans ?_
  unfold val_main_v53
  exact ref_vw_cut _ b n r e s h d hs he

/-- The keys with their marks. -/
theorem ref_k (b : Fin 2) (s : Fin 8192) (k : Fin 512) :
    val_main_v66 (F := Ideal) x g w (ix3 b s k)
      = if h : k.val % 128 < 64 then val_main_v13 (F := Ideal) x g w
            (ix3 b s ⟨768 + 256 * (k.val / 256) + 64 * (k.val / 128 % 2) + k.val % 128, by omega⟩)
        else if k.val < 256 ∧ k.val % 128 = 64 + s.val / 64 % 16 then 1 else 0 := by
  rw [ref_row x g w b s k ⟨k.val / 256, by omega⟩ ⟨k.val / 128 % 2, by omega⟩ ⟨k.val % 128, by omega⟩ (by dsimp only; omega),
    ref_stack, ref_half, ref_half']
  simp only [ref_mark]
  generalize val_main_v13 (F := Ideal) x g w = M
  have hc : ∀ (p : Fin 3096) (q : Fin 3096), p.val = q.val → M (ix3 b s p) = M (ix3 b s q) := fun p q e => by rw [Fin.ext e]
  by_cases h : k.val % 128 < 64
  · by_cases ha : k.val / 256 < 1
    · simp only [h, ha, dif_pos]
      exact hc _ _ (by dsimp only; omega)
    · simp only [h, ha, dif_pos, dif_neg, not_false_eq_true]
      exact hc _ _ (by dsimp only; omega)
  · by_cases ha : k.val / 256 < 1
    · simp only [h, ha, dif_pos, dif_neg, not_false_eq_true]
      by_cases hm : k.val % 128 = 64 + s.val / 64 % 16
      · rw [if_pos (by omega), if_pos ⟨by omega, hm⟩]
      · rw [if_neg (by omega), if_neg (by omega)]
    · simp only [h, ha, dif_neg, not_false_eq_true]
      rw [if_neg (by omega)]

/-- The selection values with their ones. -/
theorem ref_vs (b : Fin 2) (n : Fin 16) (e : Fin 160) (r : Fin 512) :
    val_main_v67 (F := Ideal) x g w (ix4 b n e r)
      = if h : e.val % 80 < 64 then val_main_v13 (F := Ideal) x g w
            (ix3 b ⟨n.val * 512 + r.val, by omega⟩ ⟨896 + 64 * (e.val / 80) + e.val % 80, by omega⟩)
        else if e.val % 80 = 64 then 1 else 0 := by
  rw [ref_vs_row x g w b n e r ⟨n.val * 512 + r.val, by omega⟩ ⟨e.val / 80, by omega⟩ ⟨e.val % 80, by omega⟩ rfl (by dsimp only; omega),
    ref_ones]
  generalize val_main_v13 (F := Ideal) x g w = M
  by_cases h : e.val % 80 < 64
  · simp only [h, dif_pos]
    exact congrArg (fun p : Fin 3096 => M (ix3 b ⟨n.val * 512 + r.val, by omega⟩ p)) (Fin.ext (by dsimp only; omega))
  · simp only [h, dif_neg, not_false_eq_true]
    by_cases h' : e.val % 80 = 64
    · rw [dif_pos (by omega), if_pos h']
    · rw [dif_neg (by omega), if_neg h']

/-- The window values with their ones. -/
theorem ref_vw (b : Fin 2) (n : Fin 64) (e : Fin 160) (r : Fin 128) :
    val_main_v68 (F := Ideal) x g w (ix4 b n e r)
      = if h : e.val % 80 < 64 then val_main_v13 (F := Ideal) x g w
            (ix3 b ⟨n.val * 128 + r.val, by omega⟩ ⟨1152 + 64 * (e.val / 80) + e.val % 80, by omega⟩)
        else if e.val % 80 = 64 then 1 else 0 := by
  rw [ref_vw_row x g w b n e r ⟨n.val * 128 + r.val, by omega⟩ ⟨e.val / 80, by omega⟩ ⟨e.val % 80, by omega⟩ rfl (by dsimp only; omega),
    ref_ones']
  generalize val_main_v13 (F := Ideal) x g w = M
  by_cases h : e.val % 80 < 64
  · simp only [h, dif_pos]
    exact congrArg (fun p : Fin 3096 => M (ix3 b ⟨n.val * 128 + r.val, by omega⟩ p)) (Fin.ext (by dsimp only; omega))
  · simp only [h, dif_neg, not_false_eq_true]
    by_cases h' : e.val % 80 = 64
    · rw [dif_pos (by omega), if_pos h']
    · rw [dif_neg (by omega), if_neg h']

/-- The gates, reordered and padded. -/
theorem ref_gate (b : Fin 2) (j : Fin 64) (h : Fin 2) (e : Fin 16) (c : Fin 128) :
    val_main_v63 (F := Ideal) x g w gb (ix5 b j h e c)
      = if he : e.val < 12 then val_main_v13 (F := Ideal) x g w
            (ix3 b ⟨j.val * 128 + c.val, by omega⟩ ⟨1280 + (h.val * 12 + e.val % 4 * 3 + e.val / 4), by omega⟩)
            + gb (ix1 ⟨h.val * 12 + e.val % 4 * 3 + e.val / 4, by omega⟩)
        else 0 := by
  unfold val_main_v63 val_main_v61 val_main_v60 val_main_v59 val_main_v58 val_main_v55
  generalize val_main_v13 (F := Ideal) x g w = M
  pointwise [val_main_v57, val_main_v56, val_main_v62, val_main_cst_7]

end Cert.Proj

end
-- ==== Proof.ProjFinal.lean ====
/- The input projection's seven result arrays after the run, each the reference's term over the kernel's own arguments. -/
module

public import proofs.«01_k».proof.Proof.ProjRead
public import proofs.«01_k».proof.Proof.ProjRef

@[expose] public section

set_option maxRecDepth 16384

noncomputable section

open Idealize.ShloMosaic Idealize.ShloMosaic.TcCoe Idealize.SL.Sem
open Idealize.ShloMosaic.Pipeline (Dat)

namespace Cert.Proj

open Cert.Kernel4Ideal Cert.Kernel4Ideal.Gen
open Cert.Reference4Ideal.Read (val_main_v13 val_main_v63 val_main_v64 val_main_v65 val_main_v66 val_main_v67 val_main_v68 val_main_v69)

variable (m : (ℓ : Loc nD τ sig) → Buf (Elt Ideal) ℓ) (c : Dev nD) (t : Fin cfg0.N)

/-- A row of a grid point's block under the norm is its token's row under the norm. -/
theorem norm_row (ht : t.val < 32) (r : Fin 512) (q : Fin 1024) (b : Fin 2) (s : Fin 8192) (hb : b.val = t.val / 16)
    (hs : s.val = t.val % 16 * 512 + r.val) :
    k0_pay6 (F := Ideal) (iblk m c 0 t) (iblk m c 1 t) (ix2 r q)
      = Rows.rms (fun q => argX m c (ix3 b s q)) (fun q => argG m c (ix1 q)) q := by
  have e0 : (fun q => (iblk m c 0 t : FVec Ideal S512x1024 .f32) (ix2 r q)) = fun q => argX m c (ix3 b s q) := by
    funext q
    exact (blk0 m c t ht r q).trans
      (congrArg₂ (fun b s => argX m c (ix3 b s q)) (Fin.ext hb.symm) (Fin.ext hs.symm))
  have e1 : (fun q => (iblk m c 1 t : FVec Ideal S1x1024 .f32) (ix2 (0 : Fin 1) q)) = fun q => argG m c (ix1 q) := by
    funext q
    exact blk1 m c t q
  refine (xn_apply _ _ r q).trans ?_
  rw [e0, e1]

/-- The reference's projection of a token, over the kernel's normed block. -/
theorem cell (ht : t.val < 32) (r : Fin 512) (k : Fin 3096) (b : Fin 2) (s : Fin 8192) (hb : b.val = t.val / 16)
    (hs : s.val = t.val % 16 * 512 + r.val) :
    val_main_v13 (F := Ideal) (argX m c) (argG m c) (argW m c) (ix3 b s k)
      = ∑ q : Fin 1024, k0_pay6 (F := Ideal) (iblk m c 0 t) (iblk m c 1 t) (ix2 r q) * argW m c (ix2 q k) := by
  refine (ref_proj _ _ _ b s k).trans (Finset.sum_congr rfl fun q _ => ?_)
  rw [norm_row m c t ht r q b s hb hs]

/-- The named constant's value. -/
theorem scale : Named.named (F := Ideal) κ "scale" (φ := .f32) 0x3E38AA3B#32 = (((1 / 8) * (Real.log 2)⁻¹ : ℝ) : EReal) :=
  IdealRules.named_const.ideal_named_scalar _ _ _ _ rfl

/-- The compression streams. -/
theorem final10 : (dats m 0 c).arrAt 10 cfg0.N = val_main_v65 (F := Ideal) (argX m c) (argG m c) (argW m c) := by
  refine (dats m 0 c).arrAt_eq_of_covers 10 _ (by decide +kernel) fun t _ y => ?_
  blk_simp
  rw [after0_10]
  obtain ⟨a, r, k, rfl⟩ : ∃ (a : Fin 1) (r : Fin 512) (k : Fin 256), y = ix3 a r k := ⟨y 0, y 1, y 2, eq_ix3 y⟩
  obtain rfl : a = 0 := Subsingleton.elim _ _
  have ht : t.val < 32 := N_0 ▸ t.isLt
  have hw : ((cfg0.win 10).blk t).view.emb (ix3 (0 : Fin 1) r k)
      = ix3 (⟨t.val / 16, by omega⟩ : Fin 2) (⟨t.val % 16 * 512 + r.val, by omega⟩ : Fin 8192) k := by
    blk_ext [iblk, V, idx t]
  rw [hw]
  refine (out10_apply _ _ _ _ _ _ _ _ _ _ r k).trans (Eq.trans ?_ (ref_kvc _ _ _ _ _ k).symm)
  rw [cell m c t ht r _ _ _ rfl rfl]
  refine Finset.sum_congr rfl fun q _ => ?_
  rw [blk3]

/-- The RWKV streams. -/
theorem final15 : (dats m 0 c).arrAt 15 cfg0.N = val_main_v69 (F := Ideal) (argX m c) (argG m c) (argW m c) := by
  refine (dats m 0 c).arrAt_eq_of_covers 15 _ (by decide +kernel) fun t _ y => ?_
  blk_simp
  rw [after0_15]
  obtain ⟨a, r, k, rfl⟩ : ∃ (a : Fin 1) (r : Fin 512) (k : Fin 1792), y = ix3 a r k := ⟨y 0, y 1, y 2, eq_ix3 y⟩
  obtain rfl : a = 0 := Subsingleton.elim _ _
  have ht : t.val < 32 := N_0 ▸ t.isLt
  have hw : ((cfg0.win 15).blk t).view.emb (ix3 (0 : Fin 1) r k)
      = ix3 (⟨t.val / 16, by omega⟩ : Fin 2) (⟨t.val % 16 * 512 + r.val, by omega⟩ : Fin 8192) k := by
    blk_ext [iblk, V, idx t]
  rw [hw]
  refine (out15_apply _ _ _ _ _ _ _ _ _ _ r k).trans (Eq.trans ?_ (ref_rw _ _ _ _ _ k).symm)
  rw [cell m c t ht r _ _ _ rfl rfl]
  refine Finset.sum_congr rfl fun q _ => ?_
  rw [blk8]

/-- The queries. -/
theorem final9 : (dats m 0 c).arrAt 9 cfg0.N = val_main_v64 (F := Ideal) (argX m c) (argG m c) (argW m c) := by
  refine (dats m 0 c).arrAt_eq_of_covers 9 _ (by decide +kernel) fun t _ y => ?_
  blk_simp
  rw [after0_9]
  obtain ⟨a, j, h, d, e, rfl⟩ : ∃ (a : Fin 1) (j : Fin 4) (h : Fin 2) (d : Fin 64) (e : Fin 512), y = ix5 a j h d e :=
    ⟨y 0, y 1, y 2, y 3, y 4, eq_ix5 y⟩
  obtain rfl : a = 0 := Subsingleton.elim _ _
  have ht : t.val < 32 := N_0 ▸ t.isLt
  have hw : ((cfg0.win 9).blk t).view.emb (ix5 (0 : Fin 1) j h d e)
      = ix5 (⟨t.val / 16, by omega⟩ : Fin 2) (⟨t.val % 16 * 4 + j.val, by omega⟩ : Fin 64) h d e := by
    blk_ext [iblk, V, idx t]
  rw [hw]
  refine (out9_apply _ _ _ _ _ _ _ _ _ _ j h d e).trans (Eq.trans ?_ (ref_q0 _ _ _ _ _ h d e).symm)
  rw [scaled, cell m c t ht ⟨j.val * 128 + e.val % 128, by omega⟩ _ _ _ rfl (by dsimp only; omega)]
  refine (q_apply _ _ _ _ _).trans ?_
  rw [scale]
  refine congrArg (· * _) (Finset.sum_congr rfl fun q _ => ?_)
  rw [blk2, xn_apply, mul_comm]

/-- The keys. -/
theorem final11 : (dats m 0 c).arrAt 11 cfg0.N = val_main_v66 (F := Ideal) (argX m c) (argG m c) (argW m c) := by
  refine (dats m 0 c).arrAt_eq_of_covers 11 _ (by decide +kernel) fun t _ y => ?_
  blk_simp
  rw [after0_11]
  obtain ⟨a, r, k, rfl⟩ : ∃ (a : Fin 1) (r : Fin 512) (k : Fin 512), y = ix3 a r k := ⟨y 0, y 1, y 2, eq_ix3 y⟩
  obtain rfl : a = 0 := Subsingleton.elim _ _
  have ht : t.val < 32 := N_0 ▸ t.isLt
  have hw : ((cfg0.win 11).blk t).view.emb (ix3 (0 : Fin 1) r k)
      = ix3 (⟨t.val / 16, by omega⟩ : Fin 2) (⟨t.val % 16 * 512 + r.val, by omega⟩ : Fin 8192) k := by
    blk_ext [iblk, V, idx t]
  rw [hw]
  have hi : (grid0.coords t 0).val = t.val := (idx t).2.2.2.2.2.2.2.2.2.2.2.2.2.2.2.2
  refine (out11_apply _ _ _ _ _ _ _ _ _ _ r k).trans (Eq.trans ?_ (ref_k _ _ _ _ _ k).symm)
  rw [hi]
  refine (k_apply ⟨t.val, ht⟩ _ _ r k).trans ?_
  dsimp only
  by_cases h : k.val % 128 < 64
  · rw [if_neg (by omega), dif_pos h, cell m c t ht r _ _ _ rfl rfl]
    refine Finset.sum_congr rfl fun q _ => ?_
    rw [blk4, dif_pos h]
  · rw [dif_neg h]
    by_cases hm : k.val < 256 ∧ k.val % 128 = 64 + (t.val * 8 + r.val / 64) % 16
    · rw [if_pos hm, if_pos (by omega)]
    · rw [if_neg hm, if_neg (by omega)]
      refine Finset.sum_eq_zero fun q _ => ?_
      rw [blk4, dif_neg h, mul_zero]

/-- The selection values. -/
theorem final12 : (dats m 0 c).arrAt 12 cfg0.N = val_main_v67 (F := Ideal) (argX m c) (argG m c) (argW m c) := by
  refine (dats m 0 c).arrAt_eq_of_covers 12 _ (by decide +kernel) fun t _ y => ?_
  blk_simp
  rw [after0_12]
  obtain ⟨a, j, e, r, rfl⟩ : ∃ (a : Fin 1) (j : Fin 1) (e : Fin 160) (r : Fin 512), y = ix4 a j e r :=
    ⟨y 0, y 1, y 2, y 3, eq_ix4 y⟩
  obtain rfl : a = 0 := Subsingleton.elim _ _
  obtain rfl : j = 0 := Subsingleton.elim _ _
  have ht : t.val < 32 := N_0 ▸ t.isLt
  have hw : ((cfg0.win 12).blk t).view.emb (ix4 (0 : Fin 1) (0 : Fin 1) e r)
      = ix4 (⟨t.val / 16, by omega⟩ : Fin 2) (⟨t.val % 16, by omega⟩ : Fin 16) e r := by
    blk_ext [iblk, V, idx t]
  rw [hw]
  refine (out12_apply _ _ _ _ _ _ _ _ _ _ e r).trans (Eq.trans ?_ (ref_vs _ _ _ _ _ e r).symm)
  refine (v_apply _ _ _ r).trans ?_
  dsimp only
  by_cases h : e.val % 80 < 64
  · rw [if_neg (by omega), dif_pos h, cell m c t ht r _ _ _ rfl rfl]
    refine Finset.sum_congr rfl fun q _ => ?_
    rw [blk5, dif_pos h, mul_comm]
    exact congrArg (fun p : Fin 3096 => _ * argW m c (ix2 q p)) (Fin.ext (by dsimp only; omega))
  · rw [dif_neg h]
    by_cases hm : e.val % 80 = 64
    · rw [if_pos hm, if_pos hm]
    · rw [if_neg hm, if_neg hm]
      refine Finset.sum_eq_zero fun q _ => ?_
      rw [blk5, dif_neg h, zero_mul]

/-- The window values. -/
theorem final13 : (dats m 0 c).arrAt 13 cfg0.N = val_main_v68 (F := Ideal) (argX m c) (argG m c) (argW m c) := by
  refine (dats m 0 c).arrAt_eq_of_covers 13 _ (by decide +kernel) fun t _ y => ?_
  blk_simp
  rw [after0_13]
  obtain ⟨a, j, e, r, rfl⟩ : ∃ (a : Fin 1) (j : Fin 4) (e : Fin 160) (r : Fin 128), y = ix4 a j e r :=
    ⟨y 0, y 1, y 2, y 3, eq_ix4 y⟩
  obtain rfl : a = 0 := Subsingleton.elim _ _
  have ht : t.val < 32 := N_0 ▸ t.isLt
  have hw : ((cfg0.win 13).blk t).view.emb (ix4 (0 : Fin 1) j e r)
      = ix4 (⟨t.val / 16, by omega⟩ : Fin 2) (⟨t.val % 16 * 4 + j.val, by omega⟩ : Fin 64) e r := by
    blk_ext [iblk, V, idx t]
  rw [hw]
  refine (out13_apply _ _ _ _ _ _ _ _ _ _ j e r).trans (Eq.trans ?_ (ref_vw _ _ _ _ _ e r).symm)
  refine (v_apply _ _ _ _).trans ?_
  dsimp only
  by_cases h : e.val % 80 < 64
  · have h' : (160 + e.val) % 80 < 64 := by omega
    rw [if_neg (by omega), dif_pos h, cell m c t ht ⟨j.val * 128 + r.val, by omega⟩ _ _ _ rfl (by dsimp only; omega)]
    refine Finset.sum_congr rfl fun q _ => ?_
    rw [blk5, dif_pos h', mul_comm]
    exact congrArg (fun p : Fin 3096 => _ * argW m c (ix2 q p)) (Fin.ext (by dsimp only; omega))
  · have h' : ¬(160 + e.val) % 80 < 64 := by omega
    rw [dif_neg h]
    by_cases hm : e.val % 80 = 64
    · rw [if_pos (by omega), if_pos hm]
    · rw [if_neg (by omega), if_neg hm]
      refine Finset.sum_eq_zero fun q _ => ?_
      rw [blk5, dif_neg h', zero_mul]

/-- The gates. -/
theorem final14 : (dats m 0 c).arrAt 14 cfg0.N
    = val_main_v63 (F := Ideal) (argX m c) (argG m c) (argW m c) (argB m c) := by
  refine (dats m 0 c).arrAt_eq_of_covers 14 _ (by decide +kernel) fun t _ y => ?_
  blk_simp
  rw [after0_14]
  obtain ⟨a, j, h, d, r, rfl⟩ : ∃ (a : Fin 1) (j : Fin 4) (h : Fin 2) (d : Fin 16) (r : Fin 128), y = ix5 a j h d r :=
    ⟨y 0, y 1, y 2, y 3, y 4, eq_ix5 y⟩
  obtain rfl : a = 0 := Subsingleton.elim _ _
  have ht : t.val < 32 := N_0 ▸ t.isLt
  have hw : ((cfg0.win 14).blk t).view.emb (ix5 (0 : Fin 1) j h d r)
      = ix5 (⟨t.val / 16, by omega⟩ : Fin 2) (⟨t.val % 16 * 4 + j.val, by omega⟩ : Fin 64) h d r := by
    blk_ext [iblk, V, idx t]
  rw [hw]
  refine (out14_apply _ _ _ _ _ _ _ _ _ _ j h d r).trans (Eq.trans ?_ (ref_gate _ _ _ _ _ _ h d r).symm)
  refine (gate_apply _ _ _ _ _).trans ?_
  by_cases hd : d.val < 12
  · have h' : (h.val * 16 + d.val) % 16 < 12 := by omega
    rw [dif_pos hd, cell m c t ht ⟨j.val * 128 + r.val, by omega⟩ _ _ _ rfl (by dsimp only; omega), blk7, dif_pos h']
    refine congrArg₂ (· + ·) (Finset.sum_congr rfl fun q _ => ?_)
      (congrArg (fun p : Fin 24 => argB m c (ix1 p)) (Fin.ext (by dsimp only; omega)))
    rw [blk6, dif_pos h', mul_comm]
    exact congrArg (fun p : Fin 3096 => _ * argW m c (ix2 q p)) (Fin.ext (by dsimp only; omega))
  · have h' : ¬(h.val * 16 + d.val) % 16 < 12 := by omega
    rw [dif_neg hd, blk7, dif_neg h', add_zero]
    refine Finset.sum_eq_zero fun q _ => ?_
    rw [blk6, dif_neg h', zero_mul]

end Cert.Proj

end
-- ==== Proof.ProjClaims.lean ====
/- The input projection's claims: the frames of the kernel as compiled, of its ideal form and of the reference, and
   the equality of the seven result arrays, from the value lemmas of `Proof/ProjFinal.lean`. -/
module

public import proofs.«01_k».proof.Defs
public import proofs.«01_k».proof.Proof.ProjFinal
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import Idealize.ShloMosaic.Lib.Quiescent

@[expose] public section

set_option maxRecDepth 16384

noncomputable section

namespace Cert.Proj

open Idealize.ShloMosaic Idealize.ShloMosaic.TcCoe Idealize.SL.Sem

/-- The kernel as compiled terminates, leaves its arguments as they were and every semaphore at zero. -/
theorem frame_kernel : Cert.quiescent_Kernel4 := fun m ρ _ => Cert.Kernel4.Gen.frame m ρ

/-- The kernel's ideal form terminates, leaves its arguments as they were and every semaphore at zero. -/
theorem frame_ideal : Cert.quiescent_Kernel4Ideal := fun m ρ _ => Cert.Kernel4Ideal.Gen.frame m ρ

/-- The reference terminates and leaves its arguments as they were; it has no semaphore. -/
theorem frame_ref : Cert.quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

/-- The one constant that the ideal form names is named rightly: its float word is the real number's rounding. -/
theorem preserved : Cert.preserves_Kernel4_Kernel4Ideal :=
  IdealRules.named_const.statement Cert.Kernel4Ideal.κ "scale" .f32 0x3E38AA3B#32
    (((1 / 8) * (Real.log 2)⁻¹ : ℝ) : EReal) rfl

set_option maxHeartbeats 4000000 in
/-- On equal arguments the ideal kernel and the reference end with seven equal result arrays. -/
theorem algebraic : Cert.algebraic_Kernel4Ideal_Reference4Ideal := by
  intro m ρ m' ρ' _ hagree
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N, ?_, ?_⟩
  · exact Cert.Kernel4Ideal.Value.run_blocks (F := Ideal) m ρ
  refine (θ_run Cert.Reference4Ideal.defs _ _).mono (fun _ h c => ?_)
    (Cert.Reference4Ideal.Value.run (F := Ideal) m' ρ')
  obtain ⟨a0, a1, a2, a3⟩ := hagree c
  obtain ⟨h0, h1, h2, h3, h4, h5, h6, hs⟩ := h c
  refine ⟨h0.trans (Eq.trans ?_ (final9 m c).symm), h1.trans (Eq.trans ?_ (final10 m c).symm),
    h2.trans (Eq.trans ?_ (final11 m c).symm), h3.trans (Eq.trans ?_ (final12 m c).symm),
    h4.trans (Eq.trans ?_ (final13 m c).symm), h5.trans (Eq.trans ?_ (final14 m c).symm),
    h6.trans (Eq.trans ?_ (final15 m c).symm), hs⟩
  · exact (Cert.Reference4Ideal.Read.val_main_v64_eq _ _ _).trans (by rw [a0, a1, a2])
  · exact (Cert.Reference4Ideal.Read.val_main_v65_eq _ _ _).trans (by rw [a0, a1, a2])
  · exact (Cert.Reference4Ideal.Read.val_main_v66_eq _ _ _).trans (by rw [a0, a1, a2])
  · exact (Cert.Reference4Ideal.Read.val_main_v67_eq _ _ _).trans (by rw [a0, a1, a2])
  · exact (Cert.Reference4Ideal.Read.val_main_v68_eq _ _ _).trans (by rw [a0, a1, a2])
  · exact (Cert.Reference4Ideal.Read.val_main_v63_eq _ _ _ _).trans (by rw [a0, a1, a2, a3])
  · exact (Cert.Reference4Ideal.Read.val_main_v69_eq _ _ _).trans (by rw [a0, a1, a2])

end Cert.Proj

end
-- ==== Proof.Mem.lean ====
module

public import proofs.«01_k».proof.Proof.Gen.Kernel5Ideal.Value
public import proofs.«01_k».proof.Proof.Gen.Reference5Ideal.Read
public import proofs.«01_k».proof.Proof.Rows
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Mem

open Cert.Kernel5Ideal Cert.Kernel5Ideal.Gen

variable (m : (ℓ : Loc nD τ sig) → Buf (Elt Ideal) ℓ)

/-- Row `r` of what the grid point stores: the row under the norm against each column of the weight. -/
theorem stored_apply (x : FVec Ideal S512x1024 .f32) (g : FVec Ideal S1x1024 .f32) (w : FVec Ideal S1024x2048 .bf16)
    (r : Fin 512) (k : Fin 2048) :
    k0_pay1 (F := Ideal) x g w (ix2 r k)
      = ∑ q : Fin 1024, Rows.rms (fun q => x (ix2 r q)) (fun q => g (ix2 0 q)) q * w (ix2 q k) := by
  pointwise [k0_pay1]
  rfl

open Cert.Reference5Ideal.Read in
/-- The reference's projection, row by row. -/
theorem ref_row_apply (x : FVec Ideal Cert.Reference5Ideal.S2x256x1024 .f32) (g : FVec Ideal Cert.Reference5Ideal.S1024 .f32)
    (w : FVec Ideal Cert.Reference5Ideal.S1024x2048 .f32) (b : Fin 2) (s : Fin 256) (k : Fin 2048) :
    val_main_v13 (F := Ideal) x g w (ix3 b s k)
      = ∑ q : Fin 1024, Rows.rms (fun q => x (ix3 b s q)) (fun q => g (ix1 q)) q * w (ix2 q k) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

open Cert.Reference5Ideal.Read in
/-- The reference's result, its two batches' rows one after another. -/
theorem ref_apply (x : FVec Ideal Cert.Reference5Ideal.S2x256x1024 .f32) (g : FVec Ideal Cert.Reference5Ideal.S1024 .f32)
    (w : FVec Ideal Cert.Reference5Ideal.S1024x2048 .f32) (n : Fin 512) (k : Fin 2048) :
    val_main_v15 (F := Ideal) x g w (ix2 n k)
      = ∑ q : Fin 1024, Rows.rms (fun q => x (ix3 ⟨n.val / 256, by omega⟩ ⟨n.val % 256, by omega⟩ q)) (fun q => g (ix1 q)) q
          * w (ix2 q k) := by
  refine Eq.trans ?_ (ref_row_apply x g w _ _ k)
  unfold val_main_v15 val_main_v14
  generalize val_main_v13 (F := Ideal) x g w = M
  pointwise []

/-- Every window's block is the whole array. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, win0_0.index t = ![0, 0] ∧ win0_1.index t = ![0, 0] ∧ win0_2.index t = ![0, 0]
    ∧ win0_3.index t = ![0, 0])

/-- The kernel's result array after the run is the reference's term over the kernel's own arguments. -/
theorem final (c : Dev nD) : (dats m 0 c).arrAt 3 cfg0.N
    = Cert.Reference5Ideal.Read.val_main_v15 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  obtain ⟨r, k, rfl⟩ : ∃ (r : Fin 512) (k : Fin 2048), y = ix2 r k := ⟨y 0, y 1, eq_ix2 y⟩
  have hw : ((cfg0.win 3).blk t).view.emb (ix2 r k) = ix2 r k := by
    blk_ext [iblk, V, idx t]
  rw [hw]
  refine (stored_apply _ _ _ r k).trans (Eq.trans ?_ (ref_apply _ _ _ _ k).symm)
  have h0 : (fun q => (iblk m c 0 t : FVec Ideal S512x1024 .f32) (ix2 r q))
      = fun q => m ((c : Thread nD τ).loc main_arg0) (ix3 ⟨r.val / 256, by omega⟩ ⟨r.val % 256, by omega⟩ q) := by
    funext q; blk_point [iblk, V, idx t]
  have h1 : (fun q => (iblk m c 1 t : FVec Ideal S1x1024 .f32) (ix2 0 q)) = fun q => m ((c : Thread nD τ).loc main_arg1) (ix1 q) := by
    funext q; blk_point [iblk, V, idx t]
  have h2 : ∀ q, (iblk m c 2 t : FVec Ideal S1024x2048 .bf16) (ix2 q k) = m ((c : Thread nD τ).loc main_arg2) (ix2 q k) := by
    intro q; blk_point [iblk, V, idx t]
  simp only [h0, h1, h2]

end Cert.Mem

end
-- ==== Proof.MemClaims.lean ====
/- The memory projection's claims: the frames of the kernel as compiled, of its ideal form and of the reference, and
   the equality of the two result arrays, from the value lemmas of `Proof/Mem.lean`. -/
module

public import proofs.«01_k».proof.Defs
public import proofs.«01_k».proof.Proof.Mem
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import Idealize.ShloMosaic.Lib.Quiescent

@[expose] public section

set_option maxRecDepth 16384

noncomputable section

namespace Cert.Mem

open Idealize.ShloMosaic Idealize.ShloMosaic.TcCoe Idealize.SL.Sem

/-- The kernel as compiled terminates, leaves its arguments as they were and every semaphore at zero. -/
theorem frame_kernel : Cert.quiescent_Kernel5 := fun m ρ _ => Cert.Kernel5.Gen.frame m ρ

/-- The kernel's ideal form terminates, leaves its arguments as they were and every semaphore at zero. -/
theorem frame_ideal : Cert.quiescent_Kernel5Ideal := fun m ρ _ => Cert.Kernel5Ideal.Gen.frame m ρ

/-- The reference terminates and leaves its arguments as they were; it has no semaphore. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The compiled kernel and its ideal form are one program. -/
theorem preserved : Cert.preserves_Kernel5_Kernel5Ideal := trivial

/-- On equal arguments the ideal kernel and the reference end with equal result arrays. -/
theorem algebraic : Cert.algebraic_Kernel5Ideal_Reference5Ideal := by
  intro m ρ m' ρ' _ hagree
  refine ⟨fun c => (Cert.Kernel5Ideal.Gen.dats m 0 c).arrAt 3 Cert.Kernel5Ideal.cfg0.N, ?_, ?_⟩
  · exact Cert.Kernel5Ideal.Value.run_blocks (F := Ideal) m ρ
  refine (θ_run Cert.Reference5Ideal.defs _ _).mono (fun _ h c => ⟨(h c).1.trans ?_, (h c).2⟩)
    (Cert.Reference5Ideal.Value.run (F := Ideal) m' ρ')
  obtain ⟨a0, a1, a2⟩ := hagree c
  refine Eq.trans ?_ (final m c).symm
  exact (Cert.Reference5Ideal.Read.val_main_v15_eq _ _ _).trans (by rw [a0, a1, a2])

end Cert.Mem

end
-- ==== Proof.lean ====
module

public import proofs.«01_k».proof.Defs
public import proofs.«01_k».proof.Proof.StateClaims
public import proofs.«01_k».proof.Proof.FfnClaims
public import proofs.«01_k».proof.Proof.MixClaims
public import proofs.«01_k».proof.Proof.ProjClaims
public import proofs.«01_k».proof.Proof.MemClaims

@[expose] public section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Pre_finite.Gen.facts,
    Cert.State.frame_kernel, Cert.State.frame_ideal, Cert.State.frame_ideal_finite, Cert.State.frame_ref,
    Cert.State.frame_ref_finite, Cert.Ffn.frame_kernel, Cert.Ffn.frame_ideal, Cert.Ffn.frame_ref, Cert.Mix.frame_kernel, Cert.Mix.frame_ideal, Cert.Mix.frame_ref,
    Cert.Proj.frame_kernel, Cert.Proj.frame_ideal, Cert.Proj.frame_ref, Cert.Mem.frame_kernel, Cert.Mem.frame_ideal,
    Cert.Mem.frame_ref, Cert.State.preserved,
    Cert.State.algebraic, Cert.Ffn.preserved, Cert.Ffn.algebraic,
    Cert.Mix.preserved, Cert.Mix.algebraic, Cert.Proj.preserved, Cert.Proj.algebraic,
    Cert.Mem.preserved, Cert.Mem.algebraic⟩

end Cert.Proof

end
